-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gated [hPre_gated : Cert.Pre_gated.Facts] (m : (ℓ : Loc Cert.KernelIdeal.nD Cert.KernelIdeal.τ Cert.KernelIdeal.sig) → Buf (Elt Ideal) ℓ) : Prop :=
  ∀ c : Dev Cert.KernelIdeal.nD,
    (Cert.Pre_gated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gated [hPre_gated : Cert.Pre_gated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gated [hKernelIdeal : Cert.KernelIdeal.Facts] [hPre_gated : Cert.Pre_gated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gated [hReferenceIdeal : Cert.ReferenceIdeal.Facts] [hPre_gated : Cert.Pre_gated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S128x2x128 Cert.KernelIdeal.S128x1x128
  ∧ IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.bf16_pair.PackStatement Cert.KernelIdeal.S16x8x128
  ∧ IdealRules.bf16_pair.Statement Cert.KernelIdeal.S128x2x128 Cert.KernelIdeal.S128x1x128
  ∧ IdealRules.bf16_pair.Statement Cert.KernelIdeal.S16x2x128 Cert.KernelIdeal.S16x1x128
  ∧ IdealRules.bf16_pair.Statement Cert.KernelIdeal.S32x128 Cert.KernelIdeal.S16x128
  ∧ IdealRules.named_const.Statement Cert.KernelIdeal.κ "ln2" .f32 0x3F317218#32 ((Real.log 2 : ℝ) : EReal)

def algebraic_KernelIdeal_ReferenceIdeal_pre_gated [hKernelIdeal : Cert.KernelIdeal.Facts] [hReferenceIdeal : Cert.ReferenceIdeal.Facts] [hPre_gated : Cert.Pre_gated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_gated : Cert.Pre_gated.Facts),
    quiescent_Kernel (hKernel := hKernel)
    ∧ quiescent_KernelIdeal (hKernelIdeal := hKernelIdeal)
    ∧ quiescent_KernelIdeal_pre_gated (hKernelIdeal := hKernelIdeal) (hPre_gated := hPre_gated)
    ∧ quiescent_ReferenceIdeal (hReferenceIdeal := hReferenceIdeal)
    ∧ quiescent_ReferenceIdeal_pre_gated (hReferenceIdeal := hReferenceIdeal) (hPre_gated := hPre_gated)
    ∧ preserves_Kernel_KernelIdeal
    ∧ algebraic_KernelIdeal_ReferenceIdeal_pre_gated (hKernelIdeal := hKernelIdeal) (hReferenceIdeal := hReferenceIdeal) (hPre_gated := hPre_gated)
-- ==== Pre_gated.lean ====
abbrev S3x1024x16x128 : Shape := ⟨4, ![3, 1024, 16, 128]⟩
abbrev S3x16 : Shape := ⟨2, ![3, 16]⟩
abbrev S3x1024x2x128 : Shape := ⟨4, ![3, 1024, 2, 128]⟩
abbrev S3x2 : Shape := ⟨2, ![3, 2]⟩
abbrev S3x2x128 : Shape := ⟨3, ![3, 2, 128]⟩
abbrev S3x1024x16 : Shape := ⟨3, ![3, 1024, 16]⟩
abbrev S_ : Shape := ⟨0, ![]⟩

class Facts : Prop where
  bcast_S_S3x1024x16 : S_.BroadcastsInDim S3x1024x16 (![] : Fin 0 → Fin S3x1024x16.rank)
  reducesTo_S3x1024x16_S_d0_1_2 : S3x1024x16.ReducesTo [0, 1, 2] S_
  h_S_ : 0 < S_.numel

variable [Facts]

def fn {F : FTy → Type} [FloatOps F] (main_arg0 : FVec F S3x1024x16x128 .fp8e4m3) (main_arg1 : FVec F S3x16 .f32) (main_arg2 : FVec F S3x1024x2x128 .fp8e4m3) (main_arg3 : FVec F S3x2 .f32) (main_arg4 : FVec F S3x1024x2x128 .fp8e4m3) (main_arg5 : FVec F S3x2x128 .f32) (main_arg6 : FVec F S3x1024x16 .f32) : IVec S_ 1 :=
  let main_cst : FVec F S_ .f32 := constant S_ .f32 0xFF800000#32
  let main_v0 : FVec F S3x1024x16 .f32 := broadcastInDim S3x1024x16 ![] bcast_S_S3x1024x16 main_cst
  let main_v1 : IVec S3x1024x16 1 := cmpf .ogt main_arg6 main_v0
  let main_c : IVec S_ 1 := constantI S_ 1 1#1
  let main_v2 : IVec S_ 1 := (fun x v => Host.reduce IntOp.andi x v reducesTo_S3x1024x16_S_d0_1_2 h_S_) main_v1 main_c
  main_v2
-- ==== Kernel.lean ====
abbrev S3x1024x16x128 : Shape := ⟨4, ![3, 1024, 16, 128]⟩
abbrev S3x16 : Shape := ⟨2, ![3, 16]⟩
abbrev S3x1024x2x128 : Shape := ⟨4, ![3, 1024, 2, 128]⟩
abbrev S3x2 : Shape := ⟨2, ![3, 2]⟩
abbrev S3x2x128 : Shape := ⟨3, ![3, 2, 128]⟩
abbrev S3x1024x16 : Shape := ⟨3, ![3, 1024, 16]⟩
abbrev S3x2x1024x128 : Shape := ⟨4, ![3, 2, 1024, 128]⟩
abbrev S3x16x1024 : Shape := ⟨3, ![3, 16, 1024]⟩
abbrev S3x2x8x1024 : Shape := ⟨4, ![3, 2, 8, 1024]⟩
abbrev S3x2x1x128 : Shape := ⟨4, ![3, 2, 1, 128]⟩
abbrev S3x1024x2048 : Shape := ⟨3, ![3, 1024, 2048]⟩
abbrev S1x1024x8x128 : Shape := ⟨4, ![1, 1024, 8, 128]⟩
abbrev S1x1x1024x128 : Shape := ⟨4, ![1, 1, 1024, 128]⟩
abbrev S1x1x1x128 : Shape := ⟨4, ![1, 1, 1, 128]⟩
abbrev S1x1x8x1024 : Shape := ⟨4, ![1, 1, 8, 1024]⟩
abbrev S1x1024x1024 : Shape := ⟨3, ![1, 1024, 1024]⟩
abbrev S1024x128 : Shape := ⟨2, ![1024, 128]⟩
abbrev S128x1024 : Shape := ⟨2, ![128, 1024]⟩
abbrev S128x128 : Shape := ⟨2, ![128, 128]⟩
abbrev S64x128 : Shape := ⟨2, ![64, 128]⟩
abbrev S8x1024 : Shape := ⟨2, ![8, 1024]⟩
abbrev S8x128 : Shape := ⟨2, ![8, 128]⟩
abbrev S64x384 : Shape := ⟨2, ![64, 384]⟩
abbrev S384x128 : Shape := ⟨2, ![384, 128]⟩
abbrev S8x1 : Shape := ⟨2, ![8, 1]⟩
abbrev S32x1024 : Shape := ⟨2, ![32, 1024]⟩
abbrev S32x128 : Shape := ⟨2, ![32, 128]⟩
abbrev S1x256 : Shape := ⟨2, ![1, 256]⟩
abbrev S1x1 : Shape := ⟨2, ![1, 1]⟩
abbrev S1x128 : Shape := ⟨2, ![1, 128]⟩
abbrev S32x256 : Shape := ⟨2, ![32, 256]⟩
abbrev S1x32x8x128 : Shape := ⟨4, ![1, 32, 8, 128]⟩
abbrev S32x8x128 : Shape := ⟨3, ![32, 8, 128]⟩
abbrev S256x128 : Shape := ⟨2, ![256, 128]⟩
abbrev S1x1x32x128 : Shape := ⟨4, ![1, 1, 32, 128]⟩
abbrev S256 : Shape := ⟨1, ![256]⟩
abbrev S96x256 : Shape := ⟨2, ![96, 256]⟩
abbrev S128x256 : Shape := ⟨2, ![128, 256]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x128 : Shape := ⟨2, ![16, 128]⟩
abbrev S1x32x128 : Shape := ⟨3, ![1, 32, 128]⟩
abbrev S1x1x64x128 : Shape := ⟨4, ![1, 1, 64, 128]⟩
abbrev S64x256 : Shape := ⟨2, ![64, 256]⟩
abbrev S1x1x96x128 : Shape := ⟨4, ![1, 1, 96, 128]⟩
abbrev S96x128 : Shape := ⟨2, ![96, 128]⟩
abbrev S1x1x128x128 : Shape := ⟨4, ![1, 1, 128, 128]⟩
abbrev S1x1x160x128 : Shape := ⟨4, ![1, 1, 160, 128]⟩
abbrev S160x128 : Shape := ⟨2, ![160, 128]⟩
abbrev S160x256 : Shape := ⟨2, ![160, 256]⟩
abbrev S256x256 : Shape := ⟨2, ![256, 256]⟩
abbrev S1x1x192x128 : Shape := ⟨4, ![1, 1, 192, 128]⟩
abbrev S192x128 : Shape := ⟨2, ![192, 128]⟩
abbrev S192x256 : Shape := ⟨2, ![192, 256]⟩
abbrev S1x1x224x128 : Shape := ⟨4, ![1, 1, 224, 128]⟩
abbrev S224x128 : Shape := ⟨2, ![224, 128]⟩
abbrev S224x256 : Shape := ⟨2, ![224, 256]⟩
abbrev S1x1x256x128 : Shape := ⟨4, ![1, 1, 256, 128]⟩
abbrev S1x1x288x128 : Shape := ⟨4, ![1, 1, 288, 128]⟩
abbrev S288x128 : Shape := ⟨2, ![288, 128]⟩
abbrev S288x256 : Shape := ⟨2, ![288, 256]⟩
abbrev S384x256 : Shape := ⟨2, ![384, 256]⟩
abbrev S128x384 : Shape := ⟨2, ![128, 384]⟩
abbrev S1x1x320x128 : Shape := ⟨4, ![1, 1, 320, 128]⟩
abbrev S320x128 : Shape := ⟨2, ![320, 128]⟩
abbrev S320x256 : Shape := ⟨2, ![320, 256]⟩
abbrev S1x1x352x128 : Shape := ⟨4, ![1, 1, 352, 128]⟩
abbrev S352x128 : Shape := ⟨2, ![352, 128]⟩
abbrev S352x256 : Shape := ⟨2, ![352, 256]⟩
abbrev S1x1x384x128 : Shape := ⟨4, ![1, 1, 384, 128]⟩
abbrev S1x1x416x128 : Shape := ⟨4, ![1, 1, 416, 128]⟩
abbrev S416x128 : Shape := ⟨2, ![416, 128]⟩
abbrev S416x256 : Shape := ⟨2, ![416, 256]⟩
abbrev S512x256 : Shape := ⟨2, ![512, 256]⟩
abbrev S128x512 : Shape := ⟨2, ![128, 512]⟩
abbrev S1x1x448x128 : Shape := ⟨4, ![1, 1, 448, 128]⟩
abbrev S448x128 : Shape := ⟨2, ![448, 128]⟩
abbrev S448x256 : Shape := ⟨2, ![448, 256]⟩
abbrev S1x1x480x128 : Shape := ⟨4, ![1, 1, 480, 128]⟩
abbrev S480x128 : Shape := ⟨2, ![480, 128]⟩
abbrev S480x256 : Shape := ⟨2, ![480, 256]⟩
abbrev S1x1x512x128 : Shape := ⟨4, ![1, 1, 512, 128]⟩
abbrev S512x128 : Shape := ⟨2, ![512, 128]⟩
abbrev S1x1x544x128 : Shape := ⟨4, ![1, 1, 544, 128]⟩
abbrev S544x128 : Shape := ⟨2, ![544, 128]⟩
abbrev S544x256 : Shape := ⟨2, ![544, 256]⟩
abbrev S640x256 : Shape := ⟨2, ![640, 256]⟩
abbrev S128x640 : Shape := ⟨2, ![128, 640]⟩
abbrev S1x1x576x128 : Shape := ⟨4, ![1, 1, 576, 128]⟩
abbrev S576x128 : Shape := ⟨2, ![576, 128]⟩
abbrev S576x256 : Shape := ⟨2, ![576, 256]⟩
abbrev S1x1x608x128 : Shape := ⟨4, ![1, 1, 608, 128]⟩
abbrev S608x128 : Shape := ⟨2, ![608, 128]⟩
abbrev S608x256 : Shape := ⟨2, ![608, 256]⟩
abbrev S1x1x640x128 : Shape := ⟨4, ![1, 1, 640, 128]⟩
abbrev S640x128 : Shape := ⟨2, ![640, 128]⟩
abbrev S1x1x672x128 : Shape := ⟨4, ![1, 1, 672, 128]⟩
abbrev S672x128 : Shape := ⟨2, ![672, 128]⟩
abbrev S672x256 : Shape := ⟨2, ![672, 256]⟩
abbrev S768x256 : Shape := ⟨2, ![768, 256]⟩
abbrev S128x768 : Shape := ⟨2, ![128, 768]⟩
abbrev S1x1x704x128 : Shape := ⟨4, ![1, 1, 704, 128]⟩
abbrev S704x128 : Shape := ⟨2, ![704, 128]⟩
abbrev S704x256 : Shape := ⟨2, ![704, 256]⟩
abbrev S1x1x736x128 : Shape := ⟨4, ![1, 1, 736, 128]⟩
abbrev S736x128 : Shape := ⟨2, ![736, 128]⟩
abbrev S736x256 : Shape := ⟨2, ![736, 256]⟩
abbrev S1x1x768x128 : Shape := ⟨4, ![1, 1, 768, 128]⟩
abbrev S768x128 : Shape := ⟨2, ![768, 128]⟩
abbrev S1x1x800x128 : Shape := ⟨4, ![1, 1, 800, 128]⟩
abbrev S800x128 : Shape := ⟨2, ![800, 128]⟩
abbrev S800x256 : Shape := ⟨2, ![800, 256]⟩
abbrev S896x256 : Shape := ⟨2, ![896, 256]⟩
abbrev S128x896 : Shape := ⟨2, ![128, 896]⟩
abbrev S1x1x832x128 : Shape := ⟨4, ![1, 1, 832, 128]⟩
abbrev S832x128 : Shape := ⟨2, ![832, 128]⟩
abbrev S832x256 : Shape := ⟨2, ![832, 256]⟩
abbrev S1x1x864x128 : Shape := ⟨4, ![1, 1, 864, 128]⟩
abbrev S864x128 : Shape := ⟨2, ![864, 128]⟩
abbrev S864x256 : Shape := ⟨2, ![864, 256]⟩
abbrev S1x1x896x128 : Shape := ⟨4, ![1, 1, 896, 128]⟩
abbrev S896x128 : Shape := ⟨2, ![896, 128]⟩
abbrev S1x1x928x128 : Shape := ⟨4, ![1, 1, 928, 128]⟩
abbrev S928x128 : Shape := ⟨2, ![928, 128]⟩
abbrev S928x256 : Shape := ⟨2, ![928, 256]⟩
abbrev S1024x256 : Shape := ⟨2, ![1024, 256]⟩
abbrev S1x1x960x128 : Shape := ⟨4, ![1, 1, 960, 128]⟩
abbrev S960x128 : Shape := ⟨2, ![960, 128]⟩
abbrev S960x256 : Shape := ⟨2, ![960, 256]⟩
abbrev S1x1x992x128 : Shape := ⟨4, ![1, 1, 992, 128]⟩
abbrev S992x128 : Shape := ⟨2, ![992, 128]⟩
abbrev S992x256 : Shape := ⟨2, ![992, 256]⟩
abbrev S8x8x128 : Shape := ⟨3, ![8, 8, 128]⟩
abbrev S1x1x128 : Shape := ⟨3, ![1, 1, 128]⟩
abbrev S64x1024 : Shape := ⟨2, ![64, 1024]⟩

abbrev nBuf : Space → Nat
  | .hbm => 16
  | .vmem => 18
  | .smem => 2
  | _ => 0

abbrev bufTy : (tb : Table) → Fin (tcTables nBuf tb) → BufTy
  | .hbm, ⟨0, _⟩ => ⟨S3x1024x16x128, .fp8e4m3⟩
  | .hbm, ⟨1, _⟩ => ⟨S3x16, .f32⟩
  | .hbm, ⟨2, _⟩ => ⟨S3x1024x2x128, .fp8e4m3⟩
  | .hbm, ⟨3, _⟩ => ⟨S3x2, .f32⟩
  | .hbm, ⟨4, _⟩ => ⟨S3x1024x2x128, .fp8e4m3⟩
  | .hbm, ⟨5, _⟩ => ⟨S3x2x128, .f32⟩
  | .hbm, ⟨6, _⟩ => ⟨S3x1024x16, .f32⟩
  | .hbm, ⟨7, _⟩ => ⟨S3x2x1024x128, .fp8e4m3⟩
  | .hbm, ⟨8, _⟩ => ⟨S3x2x1024x128, .fp8e4m3⟩
  | .hbm, ⟨9, _⟩ => ⟨S3x16x1024, .f32⟩
  | .hbm, ⟨10, _⟩ => ⟨S3x2x8x1024, .f32⟩
  | .hbm, ⟨11, _⟩ => ⟨S3x2x1x128, .f32⟩
  | .hbm, ⟨12, _⟩ => ⟨S3x1024x2048, .bf16⟩
  | .hbm, ⟨13, _⟩ => ⟨S3x2x8x1024, .f32⟩
  | .hbm, ⟨14, _⟩ => ⟨S3x16x1024, .f32⟩
  | .hbm, ⟨15, _⟩ => ⟨S3x1024x16, .f32⟩
  | .local _ .vmem, ⟨0, _⟩ => ⟨S1x1024x8x128, .fp8e4m3⟩
  | .local _ .vmem, ⟨1, _⟩ => ⟨S1x1024x8x128, .fp8e4m3⟩
  | .local _ .vmem, ⟨2, _⟩ => ⟨S1x1x1024x128, .fp8e4m3⟩
  | .local _ .vmem, ⟨3, _⟩ => ⟨S1x1x1024x128, .fp8e4m3⟩
  | .local _ .vmem, ⟨4, _⟩ => ⟨S1x1x1024x128, .fp8e4m3⟩
  | .local _ .vmem, ⟨5, _⟩ => ⟨S1x1x1024x128, .fp8e4m3⟩
  | .local _ .vmem, ⟨6, _⟩ => ⟨S1x1x1x128, .f32⟩
  | .local _ .vmem, ⟨7, _⟩ => ⟨S1x1x1x128, .f32⟩
  | .local _ .vmem, ⟨8, _⟩ => ⟨S1x1x8x1024, .f32⟩
  | .local _ .vmem, ⟨9, _⟩ => ⟨S1x1x8x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x8x1024, .f32⟩
  | .local _ .vmem, ⟨13, _⟩ => ⟨S1x1x8x1024, .f32⟩
  | .local _ .vmem, ⟨14, _⟩ => ⟨S1024x128, .f32⟩
  | .local _ .vmem, ⟨15, _⟩ => ⟨S128x1024, .bf16⟩
  | .local _ .vmem, ⟨16, _⟩ => ⟨S128x128, .i32⟩
  | .local _ .vmem, ⟨17, _⟩ => ⟨S64x128, .f32⟩
  | .local _ .smem, ⟨0, _⟩ => ⟨S3x16, .f32⟩
  | .local _ .smem, ⟨1, _⟩ => ⟨S3x2, .f32⟩
  | _, _ => ⟨S3x1024x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![3, 2], ![false, false]⟩

def k0_off1 (i : grid0.Coords) (c0_i32_37 : BitVec 32) : Fin 2 → Nat :=
  let arg0 : BitVec 32 := BitVec.ofNat 32 (i 0).val
  let v167 : Index := Scalar.indexCast arg0
  let arg1 : BitVec 32 := BitVec.ofNat 32 (i 1).val
  let c8_i32_36 : BitVec 32 := 8#32
  let v165 : BitVec 32 := Scalar.muli arg1 c8_i32_36
  let v166 : BitVec 32 := Scalar.addi v165 c0_i32_37
  let v168 : Index := Scalar.indexCast v166
  ![v167.toNat, v168.toNat]
def k0_off2 (i : grid0.Coords) : Fin 2 → Nat :=
  let arg0 : BitVec 32 := BitVec.ofNat 32 (i 0).val
  let v235 : Index := Scalar.indexCast arg0
  let arg1 : BitVec 32 := BitVec.ofNat 32 (i 1).val
  let v236 : Index := Scalar.indexCast arg1
  ![v235.toNat, v236.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x8x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
abbrev S128x2x128 : Shape := ⟨3, ![128, 2, 128]⟩
abbrev S128x1x128 : Shape := ⟨3, ![128, 1, 128]⟩
abbrev S16x2x128 : Shape := ⟨3, ![16, 2, 128]⟩
abbrev S16x1x128 : Shape := ⟨3, ![16, 1, 128]⟩
  | .local _ .vmem, ⟨16, _⟩ => ⟨S128x2x128, .bf16⟩
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S3x1024x16x128 : Shape := ⟨4, ![3, 1024, 16, 128]⟩
abbrev S3x16 : Shape := ⟨2, ![3, 16]⟩
abbrev S3x1024x2x128 : Shape := ⟨4, ![3, 1024, 2, 128]⟩
abbrev S3x2 : Shape := ⟨2, ![3, 2]⟩
abbrev S3x2x128 : Shape := ⟨3, ![3, 2, 128]⟩
abbrev S3x1024x16 : Shape := ⟨3, ![3, 1024, 16]⟩
abbrev S3x1024x2x8x128 : Shape := ⟨5, ![3, 1024, 2, 8, 128]⟩
abbrev S_ : Shape := ⟨0, ![]⟩
abbrev S3x1024x2x8 : Shape := ⟨4, ![3, 1024, 2, 8]⟩
abbrev S3x2x8x1024 : Shape := ⟨4, ![3, 2, 8, 1024]⟩
abbrev S3x2x8 : Shape := ⟨3, ![3, 2, 8]⟩
abbrev S3x2x1 : Shape := ⟨3, ![3, 2, 1]⟩
abbrev S3x2x1024x1024x8 : Shape := ⟨5, ![3, 2, 1024, 1024, 8]⟩
abbrev S3x2x8x1024x1024 : Shape := ⟨5, ![3, 2, 8, 1024, 1024]⟩
abbrev S3x2x8x1x1 : Shape := ⟨5, ![3, 2, 8, 1, 1]⟩
abbrev S3x2x8x1024x1 : Shape := ⟨5, ![3, 2, 8, 1024, 1]⟩
abbrev S3x2x8x1x1024 : Shape := ⟨5, ![3, 2, 8, 1, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S3x2x128x8x1024 : Shape := ⟨5, ![3, 2, 128, 8, 1024]⟩
abbrev S3x1x2x1x128 : Shape := ⟨5, ![3, 1, 2, 1, 128]⟩
abbrev S3x1024x2048 : Shape := ⟨3, ![3, 1024, 2048]⟩

abbrev nBuf : Space → Nat
  | .hbm => 86
  | .vmem => 6
  | .smem => 0
  | _ => 0

abbrev bufTy : (tb : Table) → Fin (tcTables nBuf tb) → BufTy
  | .hbm, ⟨0, _⟩ => ⟨S3x1024x16x128, .fp8e4m3⟩
  | .hbm, ⟨1, _⟩ => ⟨S3x16, .f32⟩
  | .hbm, ⟨2, _⟩ => ⟨S3x1024x2x128, .fp8e4m3⟩
  | .hbm, ⟨3, _⟩ => ⟨S3x2, .f32⟩
  | .hbm, ⟨4, _⟩ => ⟨S3x1024x2x128, .fp8e4m3⟩
  | .hbm, ⟨5, _⟩ => ⟨S3x2x128, .f32⟩
  | .hbm, ⟨6, _⟩ => ⟨S3x1024x16, .f32⟩
  | .hbm, ⟨7, _⟩ => ⟨S3x1024x16x128, .bf16⟩
  | .hbm, ⟨8, _⟩ => ⟨S3x1024x2x128, .bf16⟩
  | .hbm, ⟨9, _⟩ => ⟨S3x1024x2x128, .bf16⟩
  | .hbm, ⟨10, _⟩ => ⟨S3x1024x2x8x128, .bf16⟩
  | .hbm, ⟨11, _⟩ => ⟨S3x1024x16, .f32⟩
  | .hbm, ⟨12, _⟩ => ⟨S_, .f32⟩
  | .hbm, ⟨13, _⟩ => ⟨S3x1024x16, .f32⟩
  | .hbm, ⟨14, _⟩ => ⟨S3x1024x16, .f32⟩
  | .hbm, ⟨15, _⟩ => ⟨S3x1024x16, .f32⟩
  | .hbm, ⟨16, _⟩ => ⟨S3x1024x16, .f32⟩
  | .hbm, ⟨17, _⟩ => ⟨S3x1024x16, .i1⟩
  | .hbm, ⟨18, _⟩ => ⟨S3x1024x16, .f32⟩
  | .hbm, ⟨19, _⟩ => ⟨S3x1024x16, .f32⟩
  | .hbm, ⟨20, _⟩ => ⟨S3x1024x16, .f32⟩
  | .hbm, ⟨21, _⟩ => ⟨S3x1024x16, .f32⟩
  | .hbm, ⟨22, _⟩ => ⟨S3x1024x16, .f32⟩
  | .hbm, ⟨23, _⟩ => ⟨S3x1024x16, .f32⟩
  | .hbm, ⟨24, _⟩ => ⟨S3x1024x16, .f32⟩
  | .hbm, ⟨25, _⟩ => ⟨S3x1024x16, .f32⟩
  | .hbm, ⟨26, _⟩ => ⟨S3x1024x16, .f32⟩
  | .hbm, ⟨27, _⟩ => ⟨S_, .f32⟩
  | .hbm, ⟨28, _⟩ => ⟨S_, .f32⟩
  | .hbm, ⟨29, _⟩ => ⟨S3x1024x16, .f32⟩
  | .hbm, ⟨30, _⟩ => ⟨S3x1024x2x8, .f32⟩
  | .hbm, ⟨31, _⟩ => ⟨S3x2x8x1024, .f32⟩
  | .hbm, ⟨32, _⟩ => ⟨S3x2x8, .f32⟩
  | .hbm, ⟨33, _⟩ => ⟨S3x2x1, .f32⟩
  | .hbm, ⟨34, _⟩ => ⟨S3x2x8, .f32⟩
  | .hbm, ⟨35, _⟩ => ⟨S3x2x8, .f32⟩
  | .hbm, ⟨36, _⟩ => ⟨S_, .f32⟩
  | .hbm, ⟨37, _⟩ => ⟨S3x2x8, .f32⟩
  | .hbm, ⟨38, _⟩ => ⟨S3x2x8, .f32⟩
  | .hbm, ⟨39, _⟩ => ⟨S3x2x1024x1024x8, .f32⟩
  | .hbm, ⟨40, _⟩ => ⟨S3x2x8x1024x1024, .f32⟩
  | .hbm, ⟨41, _⟩ => ⟨S3x2x8x1x1, .f32⟩
  | .hbm, ⟨42, _⟩ => ⟨S3x2x8x1024x1024, .f32⟩
  | .hbm, ⟨43, _⟩ => ⟨S3x2x8x1024x1024, .f32⟩
  | .hbm, ⟨44, _⟩ => ⟨S3x2x8x1024x1, .f32⟩
  | .hbm, ⟨45, _⟩ => ⟨S3x2x8x1024x1024, .f32⟩
  | .hbm, ⟨46, _⟩ => ⟨S3x2x8x1024x1024, .f32⟩
  | .hbm, ⟨47, _⟩ => ⟨S3x2x8x1x1024, .f32⟩
  | .hbm, ⟨48, _⟩ => ⟨S3x2x8x1024x1024, .f32⟩
  | .hbm, ⟨49, _⟩ => ⟨S3x2x8x1024x1024, .f32⟩
  | .hbm, ⟨50, _⟩ => ⟨S1024, .i32⟩
  | .hbm, ⟨51, _⟩ => ⟨S1x1024, .i32⟩
  | .hbm, ⟨52, _⟩ => ⟨S1024, .i32⟩
  | .hbm, ⟨53, _⟩ => ⟨S1024x1, .i32⟩
  | .hbm, ⟨54, _⟩ => ⟨S1024x1024, .i32⟩
  | .hbm, ⟨55, _⟩ => ⟨S1024x1024, .i32⟩
  | .hbm, ⟨56, _⟩ => ⟨S1024x1024, .i1⟩
  | .hbm, ⟨57, _⟩ => ⟨S_, .f32⟩
  | .hbm, ⟨58, _⟩ => ⟨S_, .f32⟩
  | .hbm, ⟨59, _⟩ => ⟨S3x2x8x1024x1024, .i1⟩
  | .hbm, ⟨60, _⟩ => ⟨S3x2x8x1024x1024, .f32⟩
  | .hbm, ⟨61, _⟩ => ⟨S3x2x8x1024x1024, .f32⟩
  | .hbm, ⟨62, _⟩ => ⟨S_, .f32⟩
  | .hbm, ⟨63, _⟩ => ⟨S3x2x8x1024, .f32⟩
  | .hbm, ⟨64, _⟩ => ⟨S3x2x8x1024x1, .f32⟩
  | .hbm, ⟨65, _⟩ => ⟨S3x2x8x1024x1024, .f32⟩
  | .hbm, ⟨66, _⟩ => ⟨S3x2x8x1024x1024, .f32⟩
  | .hbm, ⟨67, _⟩ => ⟨S3x2x8x1024x1024, .f32⟩
  | .hbm, ⟨68, _⟩ => ⟨S_, .f32⟩
  | .hbm, ⟨69, _⟩ => ⟨S3x2x8x1024, .f32⟩
  | .hbm, ⟨70, _⟩ => ⟨S3x2x8x1024, .f32⟩
  | .hbm, ⟨71, _⟩ => ⟨S3x2x8x1024, .f32⟩
  | .hbm, ⟨72, _⟩ => ⟨S3x2x8x1024x1, .f32⟩
  | .hbm, ⟨73, _⟩ => ⟨S3x2x8x1024x1024, .f32⟩
  | .hbm, ⟨74, _⟩ => ⟨S3x2x8x1024x1024, .f32⟩
  | .hbm, ⟨75, _⟩ => ⟨S3x2x8x1024x1024, .f32⟩
  | .hbm, ⟨76, _⟩ => ⟨S3x2x8x1024x1024, .bf16⟩
  | .hbm, ⟨77, _⟩ => ⟨S3x2x128x8x1024, .f32⟩
  | .hbm, ⟨78, _⟩ => ⟨S3x1024x2x8x128, .f32⟩
  | .hbm, ⟨79, _⟩ => ⟨S3x1x2x1x128, .f32⟩
  | .hbm, ⟨80, _⟩ => ⟨S3x1024x2x8x128, .f32⟩
  | .hbm, ⟨81, _⟩ => ⟨S3x1024x2x8x128, .f32⟩
  | .hbm, ⟨82, _⟩ => ⟨S3x1024x2x8x128, .bf16⟩
  | .hbm, ⟨83, _⟩ => ⟨S3x1024x2048, .bf16⟩
  | .hbm, ⟨84, _⟩ => ⟨S3x1024x2x8, .f32⟩
  | .hbm, ⟨85, _⟩ => ⟨S3x1024x16, .f32⟩
  | .local _ .vmem, ⟨0, _⟩ => ⟨S3x1024x16x128, .fp8e4m3⟩
  | .local _ .vmem, ⟨1, _⟩ => ⟨S3x1024x2x128, .fp8e4m3⟩
  | .local _ .vmem, ⟨2, _⟩ => ⟨S3x1024x2x128, .fp8e4m3⟩
  | .local _ .vmem, ⟨3, _⟩ => ⟨S3x1024x16x128, .bf16⟩
  | .local _ .vmem, ⟨4, _⟩ => ⟨S3x1024x2x128, .bf16⟩
  | .local _ .vmem, ⟨5, _⟩ => ⟨S3x1024x2x128, .bf16⟩
  | _, _ => ⟨S3x1024x16x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v2 : Ref sig .tc := ⟨.hbm, 26, rfl⟩
abbrev main_call1_call0_cst : Ref sig .tc := ⟨.hbm, 27, rfl⟩
abbrev main_call1_call0_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_0 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v30 : Ref sig .tc := ⟨.hbm, 61, rfl⟩
abbrev main_cst_1 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_2 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x1024x16x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1024x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1024x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024x16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Rows.lean ====
module

public import Idealize.ShloMosaic.PureOps.Ideal

@[expose] public section

/-! # One row of the attention, over the extended reals

The kernel works with base-2 logits that leave out the query's own running log-gate; the reference works with
natural logits and subtracts the row's maximum. This module relates the two row by row. -/

noncomputable section

namespace Cert.Fox

open Idealize.ShloMosaic

/-- The base-2 scale, `1 / log 2`. -/
def L : ℝ := (Real.log 2)⁻¹

theorem L_pos : 0 < L := inv_pos.mpr (Real.log_pos (by norm_num))

theorem log2_pos : 0 < Real.log 2 := Real.log_pos (by norm_num)

theorem L_mul_log2 : L * Real.log 2 = 1 := inv_mul_cancel₀ log2_pos.ne'

/-- A natural logit as the kernel's base-2 logit: without the query's gate `c`, in units of `log 2`. -/
def phi (c : ℝ) (z : EReal) : EReal := (z - (c : EReal)) * (L : EReal)

@[simp] theorem phi_bot (c : ℝ) : phi c ⊥ = ⊥ := by
  unfold phi; rw [EReal.bot_sub]; exact EReal.bot_mul_coe_of_pos L_pos

@[simp] theorem phi_top (c : ℝ) : phi c ⊤ = ⊤ := by
  unfold phi; rw [EReal.top_sub_coe]; exact EReal.top_mul_coe_of_pos L_pos

theorem phi_coe (c r : ℝ) : phi c (r : EReal) = (((r - c) * L : ℝ) : EReal) := by
  unfold phi; norm_cast

theorem phi_mono (c : ℝ) : Monotone (phi c) := by
  intro a b h
  induction a with
  | bot => rw [phi_bot]; exact bot_le
  | top => rw [top_le_iff.mp h]
  | coe a =>
    induction b with
    | bot => exact absurd h (by simp)
    | top => rw [phi_top]; exact le_top
    | coe b =>
      rw [phi_coe, phi_coe, EReal.coe_le_coe_iff]
      have := EReal.coe_le_coe_iff.mp h
      exact mul_le_mul_of_nonneg_right (by linarith) L_pos.le

/-- The kernel's logit of one key is the reference's, through `phi`. -/
theorem logit_eq (y : EReal) (ct cj : ℝ) :
    y * (L : EReal) + (cj : EReal) * ((-L : ℝ) : EReal) = phi ct ((y + (ct : EReal)) - (cj : EReal)) := by
  induction y with
  | bot =>
    rw [EReal.bot_mul_coe_of_pos L_pos, EReal.bot_add, EReal.bot_add, EReal.bot_sub, phi_bot]
  | top =>
    rw [EReal.top_mul_coe_of_pos L_pos, EReal.top_add_coe, EReal.top_sub_coe, phi_top, ← EReal.coe_mul, EReal.top_add_coe]
  | coe y =>
    rw [← EReal.coe_add, ← EReal.coe_sub, phi_coe, ← EReal.coe_mul, ← EReal.coe_mul, ← EReal.coe_add]
    congr 1; ring

/-- Differences of base-2 logits are scaled differences of natural logits, in every corner. -/
theorem phi_sub (c : ℝ) (s M : EReal) : phi c s - phi c M = (s - M) * (L : EReal) := by
  induction s with
  | bot => rw [phi_bot, EReal.bot_sub, EReal.bot_sub, EReal.bot_mul_coe_of_pos L_pos]
  | top =>
    induction M with
    | bot => rw [phi_bot, phi_top]; simp only [sub_eq_add_neg, EReal.neg_bot, EReal.top_add_top]; rw [EReal.top_mul_coe_of_pos L_pos]
    | top => rw [phi_top]; simp only [sub_eq_add_neg, EReal.neg_top, EReal.add_bot]; rw [EReal.bot_mul_coe_of_pos L_pos]
    | coe M => rw [phi_top, phi_coe, EReal.top_sub_coe, EReal.top_sub_coe, EReal.top_mul_coe_of_pos L_pos]
  | coe s =>
    induction M with
    | bot => rw [phi_bot, phi_coe]; simp only [sub_eq_add_neg, EReal.neg_bot, EReal.coe_add_top]; rw [EReal.top_mul_coe_of_pos L_pos]
    | top => rw [phi_top, phi_coe]; simp only [sub_eq_add_neg, EReal.neg_top, EReal.add_bot]; rw [EReal.bot_mul_coe_of_pos L_pos]
    | coe M => rw [phi_coe, phi_coe, ← EReal.coe_sub, ← EReal.coe_sub, ← EReal.coe_mul]; congr 1; ring

/-- A power of two at a scaled exponent is the natural exponential. -/
theorem exp2_mul_L (z : EReal) : Ideal.exp2 (z * (L : EReal)) = Ideal.exp z := by
  induction z with
  | bot => rw [EReal.bot_mul_coe_of_pos L_pos]; rfl
  | top => rw [EReal.top_mul_coe_of_pos L_pos]; rfl
  | coe z =>
    rw [← EReal.coe_mul, Ideal.exp2_coe, Ideal.exp_coe]
    congr 1
    show (2 : ℝ) ^ (z * L) = _
    rw [Real.rpow_def_of_pos (by norm_num)]
    congr 1
    rw [mul_comm z L, ← mul_assoc, mul_comm (Real.log 2) L, L_mul_log2, one_mul]

/-- The exponential of something not above zero is a real number in `[0, ∞)`. -/
theorem exp_of_nonpos {z : EReal} (h : z ≤ 0) : ∃ r : ℝ, 0 ≤ r ∧ Ideal.exp z = (r : EReal) := by
  induction z with
  | bot => exact ⟨0, le_rfl, rfl⟩
  | top => exact absurd h (by simp)
  | coe z => exact ⟨Real.exp z, (Real.exp_pos z).le, rfl⟩

theorem sub_nonpos_of_le {s M : EReal} (h : s ≤ M) : s - M ≤ 0 := by
  induction s with
  | bot => rw [EReal.bot_sub]; exact bot_le
  | top => rw [top_le_iff.mp h]; simp [sub_eq_add_neg]
  | coe s =>
    induction M with
    | bot => exact absurd h (by simp)
    | top => simp [sub_eq_add_neg]
    | coe M =>
      rw [← EReal.coe_sub]
      have := EReal.coe_le_coe_iff.mp h
      exact_mod_cast sub_nonpos.mpr this

theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih,
      EReal.right_distrib_of_nonneg_of_ne_top (EReal.coe_nonneg.mpr hc) (EReal.coe_ne_top c)]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

section Row

variable {ι : Type*} (S : Finset ι) (s : ι → EReal)

/-- The row's maximum. -/
def rmax : EReal := S.sup s

/-- The row's shifted exponentials' sum. -/
def rsum : EReal := ∑ i ∈ S, Ideal.exp (s i - rmax S s)

theorem sup_phi (c : ℝ) : S.sup (fun i => phi c (s i)) = phi c (rmax S s) := by
  unfold rmax
  rw [Finset.comp_sup_eq_sup_comp_of_is_total (phi c) (phi_mono c) (phi_bot c)]
  rfl

theorem exp_row {i : ι} (hi : i ∈ S) : ∃ r : ℝ, 0 ≤ r ∧ Ideal.exp (s i - rmax S s) = (r : EReal) :=
  exp_of_nonpos (sub_nonpos_of_le (Finset.le_sup (f := s) hi))

theorem exp2_row (c : ℝ) (i : ι) : Ideal.exp2 (phi c (s i) - phi c (rmax S s)) = Ideal.exp (s i - rmax S s) := by
  rw [phi_sub, exp2_mul_L]

theorem rsum_real : ∃ r : ℝ, 0 ≤ r ∧ rsum S s = (r : EReal) := by
  classical
  have h : ∀ i, ∃ r : ℝ, 0 ≤ r ∧ (i ∈ S → Ideal.exp (s i - rmax S s) = (r : EReal)) := fun i => by
    by_cases hi : i ∈ S
    · obtain ⟨r, h0, hr⟩ := exp_row S s hi
      exact ⟨r, h0, fun _ => hr⟩
    · exact ⟨0, le_rfl, fun h => absurd h hi⟩
  choose r h0 hr using h
  refine ⟨∑ i ∈ S, r i, Finset.sum_nonneg fun i _ => h0 i, ?_⟩
  rw [coe_sum]
  exact Finset.sum_congr rfl fun i hi => hr i hi

/-- Where the sum of exponentials vanishes, every exponent is `-∞`. -/
theorem bot_of_rsum_zero (h : rsum S s = 0) {i : ι} (hi : i ∈ S) : s i - rmax S s = ⊥ := by
  classical
  have hnn : ∀ j ∈ S, 0 ≤ Ideal.exp (s j - rmax S s) := fun j hj => by
    obtain ⟨r, h0, hr⟩ := exp_row S s hj
    rw [hr]; exact EReal.coe_nonneg.mpr h0
  have hz : Ideal.exp (s i - rmax S s) = 0 := (Finset.sum_eq_zero_iff_of_nonneg hnn).mp h i hi
  generalize s i - rmax S s = z at hz
  induction z with
  | bot => rfl
  | top => exact absurd hz (by simp)
  | coe z =>
    rw [Ideal.exp_coe] at hz
    exact absurd (EReal.coe_eq_zero.mp hz) (Real.exp_pos z).ne'

/-- The two normalisations agree: the kernel divides the sum of products by the sum of exponentials,
    the reference normalises each probability by the logarithm of that sum. -/
theorem row_out (v : ι → EReal) :
    (∑ i ∈ S, v i * Ideal.exp (s i - rmax S s)) * Ideal.div 1 (rsum S s)
      = ∑ i ∈ S, Ideal.exp ((s i - rmax S s) - Ideal.log (rsum S s)) * v i := by
  obtain ⟨l, h0, hl⟩ := rsum_real S s
  by_cases hz : l = 0
  · have hz' : rsum S s = 0 := by rw [hl, hz]; rfl
    have hb := fun i (hi : i ∈ S) => bot_of_rsum_zero S s hz' hi
    rw [Finset.sum_eq_zero fun i hi => by rw [hb i hi, Ideal.exp_bot, mul_zero], zero_mul]
    exact (Finset.sum_eq_zero fun i hi => by rw [hb i hi, EReal.bot_sub, Ideal.exp_bot, zero_mul]).symm
  · have hp : 0 < l := lt_of_le_of_ne h0 (Ne.symm hz)
    rw [hl, Ideal.div_coe hz, one_mul, sum_mul_coe _ _ (by positivity)]
    refine Finset.sum_congr rfl fun i hi => ?_
    have hz := sub_nonpos_of_le (Finset.le_sup (f := s) hi)
    change s i - rmax S s ≤ 0 at hz
    rw [Ideal.log_coe, if_neg (not_le.mpr hp)]
    generalize s i - rmax S s = z at hz
    induction z with
    | bot => rw [EReal.bot_sub, Ideal.exp_bot, mul_zero, zero_mul, zero_mul]
    | top => exact absurd hz (by simp)
    | coe z =>
      rw [← EReal.coe_sub, Ideal.exp_coe, Ideal.exp_coe, Real.exp_sub, Real.exp_log hp, mul_assoc, ← EReal.coe_mul, mul_comm]
      congr 2
      ring

/-- The kernel's row statistic, brought back to a natural log-sum-exp. -/
theorem stat_back (c : ℝ) (M ll : EReal) :
    (phi c M + ll * (L : EReal)) * ((Real.log 2 : ℝ) : EReal) + (c : EReal) = M + ll := by
  have hb : ∀ x : EReal, (⊥ + x) * ((Real.log 2 : ℝ) : EReal) + (c : EReal) = ⊥ := fun x => by
    rw [EReal.bot_add, EReal.bot_mul_coe_of_pos log2_pos, EReal.bot_add]
  induction M with
  | bot => rw [phi_bot, hb, EReal.bot_add]
  | top =>
    rw [phi_top]
    induction ll with
    | bot => rw [EReal.bot_mul_coe_of_pos L_pos, EReal.add_bot, EReal.bot_mul_coe_of_pos log2_pos, EReal.bot_add]
    | top => rw [EReal.top_mul_coe_of_pos L_pos, EReal.top_add_top, EReal.top_mul_coe_of_pos log2_pos, EReal.top_add_coe]
    | coe x => rw [← EReal.coe_mul, EReal.top_add_coe, EReal.top_mul_coe_of_pos log2_pos, EReal.top_add_coe, EReal.top_add_coe]
  | coe M =>
    rw [phi_coe]
    induction ll with
    | bot => rw [EReal.bot_mul_coe_of_pos L_pos, EReal.add_bot, EReal.bot_mul_coe_of_pos log2_pos, EReal.bot_add, EReal.add_bot]
    | top => rw [EReal.top_mul_coe_of_pos L_pos, EReal.coe_add_top, EReal.top_mul_coe_of_pos log2_pos, EReal.top_add_coe, EReal.coe_add_top]
    | coe x =>
      rw [← EReal.coe_mul, ← EReal.coe_add, ← EReal.coe_mul, ← EReal.coe_add, ← EReal.coe_add]
      congr 1
      have := L_mul_log2
      linear_combination (M - c + x) * this

/-- The kernel's row statistic is a real number or `-∞`. -/
theorem stat_ne_top (c : ℝ) : phi c (rmax S s) + Ideal.log (rsum S s) * (L : EReal) ≠ ⊤ := by
  obtain ⟨l, h0, hl⟩ := rsum_real S s
  by_cases hM : rmax S s = ⊤
  · have hz : rsum S s = 0 := by
      unfold rsum
      refine Finset.sum_eq_zero fun i _ => ?_
      rw [hM, sub_eq_add_neg, EReal.neg_top, EReal.add_bot, Ideal.exp_bot]
    have h0 : Ideal.log (0 : EReal) = ⊥ := by
      rw [← EReal.coe_zero, Ideal.log_coe, if_pos le_rfl]
    rw [hz, h0, EReal.bot_mul_coe_of_pos L_pos, EReal.add_bot]; exact bot_ne_top
  · rw [hl, Ideal.log_coe]
    generalize rmax S s = M at hM
    induction M with
    | bot => rw [phi_bot, EReal.bot_add]; exact bot_ne_top
    | top => exact absurd rfl hM
    | coe M =>
      rw [phi_coe]
      split
      · rw [EReal.bot_mul_coe_of_pos L_pos, EReal.add_bot]; exact bot_ne_top
      · rw [← EReal.coe_mul, ← EReal.coe_add]; exact EReal.coe_ne_top _

end Row

end Cert.Fox

end
-- ==== Proof.Tile.lean ====
module

public import Idealize.ShloMosaic.Lib.Pointwise
public import Idealize.ShloMosaic.Lib.Pointwise.IndexVar
public import Idealize.ShloMosaic.Lib.IdealHost
public import proofs.«01_k».proof.Proof.Rows

@[expose] public section

set_option maxRecDepth 16384

/-! # The vector operations of one query tile, at any number of keys

The kernel handles 32 query tokens at a time against the `n` keys that can matter to them. Each definition spells
one stage of that computation; each theorem reads the stage at one index. -/

noncomputable section

namespace Cert.Fox

open Idealize.ShloMosaic

/-- The constant that masks a logit is `-∞`. -/
theorem negInf : Ideal.ofBits FTy.f32 0xFF800000#32 = ⊥ := by simp [Ideal.ofBits, Ideal.ieee]

/-- Key rows against query lanes, scaled, with the keys' bias over both halves of the lanes. -/
def lin (n : ℕ) (hb : (⟨2, ![1, 256]⟩ : Shape).Broadcasts ⟨2, ![n, 256]⟩)
    (hc : Shape.Concatenates [⟨2, ![n, 128]⟩, ⟨2, ![n, 128]⟩] ⟨2, ![n, 256]⟩ 1)
    (K : FVec Ideal ⟨2, ![n, 128]⟩ .fp8e4m3) (Q : FVec Ideal ⟨2, ![256, 128]⟩ .fp8e4m3) (qk : FVec Ideal ⟨2, ![1, 256]⟩ .f32)
    (B : FVec Ideal ⟨2, ![n, 128]⟩ .f32) : FVec Ideal ⟨2, ![n, 256]⟩ .f32 :=
  addf (mulf (matmul (DotDims.transposedRhs n 128 256) none K Q (constant ⟨2, ![n, 256]⟩ .f32 0#32)) (broadcastTo ⟨2, ![n, 256]⟩ qk hb))
    (concatenate ⟨2, ![n, 256]⟩ 1 [⟨⟨2, ![n, 128]⟩, B⟩, ⟨⟨2, ![n, 128]⟩, B⟩] hc)

theorem lin_apply (n : ℕ) (hb hc) (K Q qk B) (j : Fin n) (l : Fin 256) :
    lin n hb hc K Q qk B (ix2 j l) = (∑ d : Fin 128, K (ix2 j d) * Q (ix2 l d)) * qk (ix2 0 l) + B (ix2 j ⟨l.val % 128, Nat.mod_lt _ (by norm_num)⟩) := by
  unfold lin
  pointwise
  congr 1
  split
  · rename_i h; congr 2; exact Fin.ext (Nat.mod_eq_of_lt h).symm
  · congr 2; apply Fin.ext; show l.val - 128 = l.val % 128; omega

/-- The running maximum over the keys, per lane. -/
def colMax (n : ℕ) (h : (⟨2, ![n, 256]⟩ : Shape).Reduces [0] ⟨1, ![256]⟩) (hφ : FKind.Formats .f32) (ha : 0xFF800000#32 = FKind.maximumf.neutral .f32 hφ) (hs : (⟨1, ![256]⟩ : Shape).ShapeCasts ⟨2, ![1, 256]⟩)
    (x : FVec Ideal ⟨2, ![n, 256]⟩ .f32) : FVec Ideal ⟨2, ![1, 256]⟩ .f32 :=
  shapeCast ⟨2, ![1, 256]⟩ (multiReduction .maximumf [0] ⟨1, ![256]⟩ x 0xFF800000#32 h hφ ha) hs

theorem colMax_apply (n : ℕ) (h hφ ha hs x) (l : Fin 256) : colMax n h hφ ha hs x (ix2 0 l) = Finset.univ.sup fun j : Fin n => x (ix2 j l) := by
  unfold colMax
  pointwise
  rw [negInf]
  rfl

def colSum (n : ℕ) (h : (⟨2, ![n, 256]⟩ : Shape).Reduces [0] ⟨1, ![256]⟩) (hφ : FKind.Formats .f32) (ha : 0#32 = FKind.add.neutral .f32 hφ) (hs : (⟨1, ![256]⟩ : Shape).ShapeCasts ⟨2, ![1, 256]⟩)
    (x : FVec Ideal ⟨2, ![n, 256]⟩ .f32) : FVec Ideal ⟨2, ![1, 256]⟩ .f32 :=
  shapeCast ⟨2, ![1, 256]⟩ (multiReduction .add [0] ⟨1, ![256]⟩ x 0#32 h hφ ha) hs

theorem colSum_apply (n : ℕ) (h hφ ha hs x) (l : Fin 256) : colSum n h hφ ha hs x (ix2 0 l) = ∑ j : Fin n, x (ix2 j l) := by
  unfold colSum
  pointwise

/-- Powers of two of the logits less their maximum. -/
def expo (n : ℕ) (hb : (⟨2, ![1, 256]⟩ : Shape).Broadcasts ⟨2, ![n, 256]⟩) (x : FVec Ideal ⟨2, ![n, 256]⟩ .f32) (m : FVec Ideal ⟨2, ![1, 256]⟩ .f32) :
    FVec Ideal ⟨2, ![n, 256]⟩ .f32 := exp2 (subf x (broadcastTo ⟨2, ![n, 256]⟩ m hb))

theorem expo_apply (n : ℕ) (hb x m) (j : Fin n) (l : Fin 256) : expo n hb x m (ix2 j l) = Ideal.exp2 (x (ix2 j l) - m (ix2 0 l)) := by
  unfold expo
  pointwise
  rfl

/-- The causal mask over the tile's own 32 keys. -/
def maskT (n t0 : ℕ) (h1 : (⟨2, ![n, 256]⟩ : Shape).Slices ![0, 0] ⟨2, ![t0, 256]⟩) (h2 : (⟨2, ![n, 256]⟩ : Shape).Slices ![t0, 0] ⟨2, ![32, 256]⟩)
    (hc : Shape.Concatenates [⟨2, ![t0, 256]⟩, ⟨2, ![32, 256]⟩] ⟨2, ![n, 256]⟩ 0) (cau : IVec ⟨2, ![32, 256]⟩ 1)
    (x : FVec Ideal ⟨2, ![n, 256]⟩ .f32) : FVec Ideal ⟨2, ![n, 256]⟩ .f32 :=
  concatenate ⟨2, ![n, 256]⟩ 0 [⟨⟨2, ![t0, 256]⟩, extractStridedSlice ⟨2, ![t0, 256]⟩ ![0, 0] x h1⟩,
    ⟨⟨2, ![32, 256]⟩, select cau (extractStridedSlice ⟨2, ![32, 256]⟩ ![t0, 0] x h2) (broadcast ⟨2, ![32, 256]⟩ (FloatOps.ofBits .f32 0xFF800000#32))⟩] hc

theorem maskT_apply (n t0 : ℕ) (h1 h2 hc cau x) (hn : n = t0 + 32) (hcau : ∀ (a : Fin 32) (l : Fin 256), cau (ix2 a l) = if a.val ≤ l.val / 8 then 1#1 else 0#1)
    (j : Fin n) (l : Fin 256) : maskT n t0 h1 h2 hc cau x (ix2 j l) = if j.val ≤ t0 + l.val / 8 then x (ix2 j l) else ⊥ := by
  unfold maskT
  pointwise
  split
  · rename_i h; rw [if_pos (by omega)]
  · rename_i h
    have hj : (⟨t0 + (j.val - t0), by omega⟩ : Fin n) = j := Fin.ext (by show t0 + (j.val - t0) = j.val; omega)
    rw [hcau, hj]
    by_cases h' : j.val - t0 ≤ l.val / 8
    · have h2 : j.val ≤ t0 + l.val / 8 := by omega
      rw [if_pos h2]
      show Scalar.select (if j.val - t0 ≤ l.val / 8 then 1#1 else 0#1) _ _ = _
      rw [if_pos h']; rfl
    · have h2 : ¬ j.val ≤ t0 + l.val / 8 := by omega
      rw [if_neg h2]
      show Scalar.select (if j.val - t0 ≤ l.val / 8 then 1#1 else 0#1) _ _ = _
      rw [if_neg h']; exact negInf

/-- Value columns against the exponentials, over their sum. -/
def outp (N : ℕ) (hb : (⟨2, ![1, 256]⟩ : Shape).Broadcasts ⟨2, ![128, 256]⟩) (V : FVec Ideal ⟨2, ![128, N]⟩ .bf16) (P : FVec Ideal ⟨2, ![N, 256]⟩ .bf16)
    (l : FVec Ideal ⟨2, ![1, 256]⟩ .f32) : FVec Ideal ⟨2, ![128, 256]⟩ .f32 :=
  mulf (matmul (DotDims.plain 128 N 256) none V P (constant ⟨2, ![128, 256]⟩ .f32 0#32))
    (broadcastTo ⟨2, ![128, 256]⟩ (divf (broadcast ⟨2, ![1, 256]⟩ (FloatOps.ofBits .f32 0x3F800000#32)) l) hb)

theorem outp_apply (N : ℕ) (hb V P l) (d : Fin 128) (i : Fin 256) :
    outp N hb V P l (ix2 d i) = (∑ j : Fin N, V (ix2 d j) * P (ix2 j i)) * Ideal.div 1 (l (ix2 0 i)) := by
  unfold outp
  pointwise
  rw [Ideal.matmul_apply₁ (DotDims.plain 128 N 256) rfl rfl]
  pointwise

/-- The exponentials with zero rows up to a multiple of 128. -/
def padT (n m N : ℕ) (hw : FTy.bits .bf16 < FTy.bits .f32) (hc : Shape.Concatenates [⟨2, ![n, 256]⟩, ⟨2, ![m, 256]⟩] ⟨2, ![N, 256]⟩ 0)
    (p : FVec Ideal ⟨2, ![n, 256]⟩ .f32) : FVec Ideal ⟨2, ![N, 256]⟩ .bf16 :=
  concatenate ⟨2, ![N, 256]⟩ 0 [⟨⟨2, ![n, 256]⟩, truncf .bf16 p hw⟩, ⟨⟨2, ![m, 256]⟩, broadcast ⟨2, ![m, 256]⟩ (FloatOps.ofBits .bf16 0#16)⟩] hc

theorem padT_apply (n m N : ℕ) (hw hc p) (hN : N = n + m) (j : Fin N) (l : Fin 256) :
    padT n m N hw hc p (ix2 j l) = if h : j.val < n then p (ix2 ⟨j.val, h⟩ l) else 0 := by
  unfold padT
  pointwise

end Cert.Fox

end
-- ==== Proof.TileRow.lean ====
module

public import proofs.«01_k».proof.Proof.Tile

@[expose] public section

set_option maxRecDepth 16384

/-! # What one query tile leaves, in terms of the block's keys, queries and values

A tile computes with the keys up to its own last token only. Every later key is masked, so each of its maxima and sums
is the one over all 1024 keys. -/

noncomputable section

namespace Cert.Fox

open Idealize.ShloMosaic

/-- One grid point's data: keys, values, queries by token and head, the logit scale per head, the key bias per head,
    and the value scale per feature. -/
structure In where
  k : Fin 1024 → Fin 128 → EReal
  v : Fin 1024 → Fin 128 → EReal
  q : Fin 1024 → Fin 8 → Fin 128 → EReal
  s : Fin 8 → EReal
  b : Fin 8 → Fin 1024 → EReal
  vs : Fin 128 → EReal

namespace In

variable (x : In) (t : Fin 1024) (h : Fin 8)

/-- The base-2 logit of key `j`, `-∞` past the query. -/
def log (j : Fin 1024) : EReal := if j.val ≤ t.val then (∑ d : Fin 128, x.k j d * x.q t h d) * x.s h + x.b h j else ⊥

def max : EReal := Finset.univ.sup (x.log t h)

def ex (j : Fin 1024) : EReal := Ideal.exp2 (x.log t h j - x.max t h)

def sum : EReal := ∑ j : Fin 1024, x.ex t h j

/-- The attention output before the value scale. -/
def out (d : Fin 128) : EReal := (∑ j : Fin 1024, x.v j d * x.ex t h j) * Ideal.div 1 (x.sum t h)

/-- The row statistic. -/
def stat : EReal := x.max t h + Ideal.log (x.sum t h) * (L : EReal)

end In

theorem sup_ext {n : ℕ} (hn : n ≤ 1024) (k : Fin 1024 → EReal) (hk : ∀ j : Fin 1024, n ≤ j.val → k j = ⊥) :
    (Finset.univ.sup fun j : Fin n => k ⟨j.val, by omega⟩) = Finset.univ.sup k := by
  apply le_antisymm
  · exact Finset.sup_le fun j _ => Finset.le_sup (f := k) (Finset.mem_univ _)
  · refine Finset.sup_le fun j _ => ?_
    by_cases hj : j.val < n
    · exact Finset.le_sup (f := fun j : Fin n => k ⟨j.val, by omega⟩) (Finset.mem_univ (⟨j.val, hj⟩ : Fin n))
    · rw [hk j (by omega)]; exact bot_le

theorem sum_ext {n : ℕ} (hn : n ≤ 1024) (f : Fin 1024 → EReal) (hf : ∀ j : Fin 1024, n ≤ j.val → f j = 0) :
    (∑ j : Fin n, f ⟨j.val, by omega⟩) = ∑ j : Fin 1024, f j := by
  have e : ∀ m (hm : m ≤ 1024), (∑ j : Fin m, f ⟨j.val, by omega⟩) = ∑ j ∈ Finset.range m, (if h : j < 1024 then f ⟨j, h⟩ else 0) := fun m hm => by
    rw [← Fin.sum_univ_eq_sum_range]
    exact Finset.sum_congr rfl fun j _ => by rw [dif_pos (by omega)]
  have e' := e 1024 le_rfl
  rw [e n hn]
  refine Eq.trans ?_ e'.symm
  refine Finset.sum_subset (Finset.range_mono hn) fun j hj hj' => ?_
  simp only [Finset.mem_range] at hj hj'
  rw [dif_pos hj]
  exact hf _ (by simpa using hj')

/-- The token and head a query lane holds, in the tile that starts at token `t0`. -/
def tok (t0 : ℕ) (ht : t0 + 32 ≤ 1024) (i : Fin 256) : Fin 1024 := ⟨t0 + i.val / 8, by omega⟩

def hd (i : Fin 256) : Fin 8 := ⟨i.val % 8, Nat.mod_lt _ (by norm_num)⟩

/-- The tile's masked logits are the block's. -/
def LogOk (x : In) (n t0 : ℕ) (hn : n = t0 + 32) (ht : t0 + 32 ≤ 1024) (X : FVec Ideal ⟨2, ![n, 256]⟩ .f32) : Prop :=
  ∀ (j : Fin n) (i : Fin 256), X (ix2 j i) = x.log (tok t0 ht i) (hd i) ⟨j.val, by omega⟩

section

variable (x : In) (n t0 : ℕ) (hn : n = t0 + 32) (ht : t0 + 32 ≤ 1024)

theorem lin_ok (hb hc K Q qk B)
    (hK : ∀ (j : Fin n) d, K (ix2 j d) = x.k ⟨j.val, by omega⟩ d) (hQ : ∀ (i : Fin 256) d, Q (ix2 i d) = x.q (tok t0 ht i) (hd i) d)
    (hq : ∀ i : Fin 256, qk (ix2 0 i) = x.s (hd i)) (hB : ∀ (j : Fin n) (i : Fin 128), B (ix2 j i) = x.b ⟨i.val % 8, Nat.mod_lt _ (by norm_num)⟩ ⟨j.val, by omega⟩)
    (j : Fin n) (i : Fin 256) :
    lin n hb hc K Q qk B (ix2 j i) = (∑ d : Fin 128, x.k ⟨j.val, by omega⟩ d * x.q (tok t0 ht i) (hd i) d) * x.s (hd i) + x.b (hd i) ⟨j.val, by omega⟩ := by
  rw [lin_apply, hq, hB]
  congr 2
  · exact Finset.sum_congr rfl fun d _ => by rw [hK, hQ]
  · apply Fin.ext; show i.val % 128 % 8 = i.val % 8; omega

/-- A tile past the first: only its own 32 keys are masked. -/
theorem logOk_mask (h1 h2 hc' cau hb hc K Q qk B)
    (hcau : ∀ (a : Fin 32) (l : Fin 256), cau (ix2 a l) = if a.val ≤ l.val / 8 then 1#1 else 0#1)
    (hK : ∀ (j : Fin n) d, K (ix2 j d) = x.k ⟨j.val, by omega⟩ d) (hQ : ∀ (i : Fin 256) d, Q (ix2 i d) = x.q (tok t0 ht i) (hd i) d)
    (hq : ∀ i : Fin 256, qk (ix2 0 i) = x.s (hd i)) (hB : ∀ (j : Fin n) (i : Fin 128), B (ix2 j i) = x.b ⟨i.val % 8, Nat.mod_lt _ (by norm_num)⟩ ⟨j.val, by omega⟩) :
    LogOk x n t0 hn ht (maskT n t0 h1 h2 hc' cau (lin n hb hc K Q qk B)) := by
  intro j i
  rw [maskT_apply n t0 h1 h2 hc' cau _ hn hcau, lin_ok x n t0 hn ht hb hc K Q qk B hK hQ hq hB]
  rfl

/-- The first tile: all its keys are its own. -/
def mask0 (cau : IVec ⟨2, ![32, 256]⟩ 1) (y : FVec Ideal ⟨2, ![32, 256]⟩ .f32) : FVec Ideal ⟨2, ![32, 256]⟩ .f32 :=
  select cau y (broadcast ⟨2, ![32, 256]⟩ (FloatOps.ofBits .f32 0xFF800000#32))

omit hn ht in
theorem logOk_mask0 (cau hb hc K Q qk B)
    (hcau : ∀ (a : Fin 32) (l : Fin 256), cau (ix2 a l) = if a.val ≤ l.val / 8 then 1#1 else 0#1)
    (hK : ∀ (j : Fin 32) d, K (ix2 j d) = x.k ⟨j.val, by omega⟩ d) (hQ : ∀ (i : Fin 256) d, Q (ix2 i d) = x.q (tok 0 (by norm_num) i) (hd i) d)
    (hq : ∀ i : Fin 256, qk (ix2 0 i) = x.s (hd i)) (hB : ∀ (j : Fin 32) (i : Fin 128), B (ix2 j i) = x.b ⟨i.val % 8, Nat.mod_lt _ (by norm_num)⟩ ⟨j.val, by omega⟩) :
    LogOk x 32 0 rfl (by norm_num) (mask0 cau (lin 32 hb hc K Q qk B)) := by
  intro j i
  show Scalar.select (cau (ix2 j i)) (lin 32 hb hc K Q qk B (ix2 j i)) (Ideal.ofBits .f32 0xFF800000#32) = _
  rw [hcau, lin_ok x 32 0 rfl (by norm_num) hb hc K Q qk B hK hQ hq hB, negInf]
  unfold In.log
  by_cases h : j.val ≤ i.val / 8
  · have h' : j.val ≤ (tok 0 (by norm_num) i).val := by show j.val ≤ 0 + i.val / 8; omega
    rw [if_pos h, if_pos h']; rfl
  · have h' : ¬ j.val ≤ (tok 0 (by norm_num) i).val := by show ¬ j.val ≤ 0 + i.val / 8; omega
    rw [if_neg h, if_neg h']; rfl

include hn in
theorem log_bot (i : Fin 256) (j : Fin 1024) (hj : n ≤ j.val) : x.log (tok t0 ht i) (hd i) j = ⊥ := by
  unfold In.log
  rw [if_neg]
  show ¬ j.val ≤ t0 + i.val / 8
  omega

variable {x n t0 hn ht}

theorem max_ok {X} (hX : LogOk x n t0 hn ht X) (h hφ ha hs) (i : Fin 256) :
    colMax n h hφ ha hs X (ix2 0 i) = x.max (tok t0 ht i) (hd i) := by
  rw [colMax_apply, In.max, ← sup_ext (n := n) (by omega) _ (log_bot x n t0 hn ht i)]
  exact Finset.sup_congr rfl fun j _ => hX j i

theorem ex_ok {X} (hX : LogOk x n t0 hn ht X) (h hφ ha hs hb) (j : Fin n) (i : Fin 256) :
    expo n hb X (colMax n h hφ ha hs X) (ix2 j i) = x.ex (tok t0 ht i) (hd i) ⟨j.val, by omega⟩ := by
  rw [expo_apply, max_ok hX, hX]
  rfl

theorem ex_zero (hn : n = t0 + 32) (ht : t0 + 32 ≤ 1024) (i : Fin 256) (j : Fin 1024) (hj : n ≤ j.val) : x.ex (tok t0 ht i) (hd i) j = 0 := by
  unfold In.ex
  rw [log_bot x n t0 hn ht i j hj, EReal.bot_sub]
  rfl

theorem sum_ok {X} (hX : LogOk x n t0 hn ht X) (h hφ ha hs hb h' hφ' ha' hs') (i : Fin 256) :
    colSum n h' hφ' ha' hs' (expo n hb X (colMax n h hφ ha hs X)) (ix2 0 i) = x.sum (tok t0 ht i) (hd i) := by
  rw [colSum_apply, In.sum, ← sum_ext (n := n) (by omega) _ (ex_zero hn ht i)]
  exact Finset.sum_congr rfl fun j _ => ex_ok hX h hφ ha hs hb j i

/-- A tile's output block, by feature and query lane. -/
def OutOk (x : In) (t0 : ℕ) (ht : t0 + 32 ≤ 1024) (O : FVec Ideal ⟨2, ![128, 256]⟩ .f32) : Prop :=
  ∀ (d : Fin 128) (i : Fin 256), O (ix2 d i) = x.out (tok t0 ht i) (hd i) d

/-- A tile's maxima and sums, by query lane. -/
def StatOk (x : In) (t0 : ℕ) (ht : t0 + 32 ≤ 1024) (M S : FVec Ideal ⟨2, ![1, 256]⟩ .f32) : Prop :=
  ∀ i : Fin 256, M (ix2 0 i) = x.max (tok t0 ht i) (hd i) ∧ S (ix2 0 i) = x.sum (tok t0 ht i) (hd i)

theorem statOk {X} (hX : LogOk x n t0 hn ht X) (h hφ ha hs hb h' hφ' ha' hs') :
    StatOk x t0 ht (colMax n h hφ ha hs X) (colSum n h' hφ' ha' hs' (expo n hb X (colMax n h hφ ha hs X))) :=
  fun i => ⟨max_ok hX h hφ ha hs i, sum_ok hX h hφ ha hs hb h' hφ' ha' hs' i⟩

theorem outOk_pad {X} (hX : LogOk x n t0 hn ht X) (m N : ℕ) (hN : N = n + m) (hN' : N ≤ 1024) (h hφ ha hs hb h' hφ' ha' hs' hb' hw hc V)
    (hV : ∀ (d : Fin 128) (j : Fin N), V (ix2 d j) = x.v ⟨j.val, by omega⟩ d) :
    OutOk x t0 ht (outp N hb' V (padT n m N hw hc (expo n hb X (colMax n h hφ ha hs X)))
      (colSum n h' hφ' ha' hs' (expo n hb X (colMax n h hφ ha hs X)))) := by
  intro d i
  rw [outp_apply, sum_ok hX, In.out, ← sum_ext (n := N) (by omega) _ (fun j hj => by rw [ex_zero hn ht i j (by omega), mul_zero])]
  congr 1
  refine Finset.sum_congr rfl fun j _ => ?_
  rw [hV, padT_apply n m N hw hc _ hN]
  split
  · rw [ex_ok hX]
  · rw [ex_zero hn ht i ⟨j.val, by omega⟩ (by show n ≤ j.val; omega)]

theorem outOk_full {X} (hX : LogOk x n t0 hn ht X) (h hφ ha hs hb h' hφ' ha' hs' hb' V) (hw : FTy.bits .bf16 < FTy.bits .f32)
    (hV : ∀ (d : Fin 128) (j : Fin n), V (ix2 d j) = x.v ⟨j.val, by omega⟩ d) :
    OutOk x t0 ht (outp n hb' V (truncf .bf16 (expo n hb X (colMax n h hφ ha hs X)) hw)
      (colSum n h' hφ' ha' hs' (expo n hb X (colMax n h hφ ha hs X)))) := by
  intro d i
  rw [outp_apply, sum_ok hX, In.out, ← sum_ext (n := n) (by omega) _ (fun j hj => by rw [ex_zero hn ht i j (by omega), mul_zero])]
  congr 1
  refine Finset.sum_congr rfl fun j _ => ?_
  rw [hV]
  exact congrArg _ (ex_ok hX h hφ ha hs hb j i)

end

end Cert.Fox

end
-- ==== Proof.Reads.lean ====
module

public import proofs.«01_k».proof.Proof.TileRow
public import proofs.«01_k».proof.Proof.Gen.KernelIdeal.Frame
public import Idealize.ShloMosaic.Lib.VecWindow
public import Idealize.ShloMosaic.Lib.WholeRead
public import Idealize.ShloMosaic.Lib.ValueLayout

@[expose] public section

set_option maxRecDepth 16384

/-! # What a query tile loads

The tile's key rows and query lanes are read from the staged blocks, its key bias and its values from the two scratch
arrays that the grid point filled first. -/

noncomputable section

namespace Cert.Fox

open Idealize.ShloMosaic Idealize.ShloMosaic.TcCoe Cert.KernelIdeal Cert.KernelIdeal.Gen

/-- A load of any rectangle after a store of the whole array reads the stored value at the place. -/
theorem readCov_whole {sig : RefSig} {κ : Kind} {sp : Space} {s : Shape} {e : EltTy} {Val : EltTy → Type} [∀ e, Nonempty (Val e)]
    (v : View sig κ sp s e) {off : Fin s.rank → ℕ} (inb : ∀ a, off a + s.size a ≤ s.size a) (w : (Rect.unit off s.size inb).shape.Idx → Val e)
    (l : List (View.Piece Val s e)) (B : LoadRect s) (j : B.shape.Idx) :
    v.readCov (⟨Rect.unit off s.size inb, w⟩ :: l) B j = w (B.idx j) :=
  congrFun (View.read_writes_full v v.junk inb w l) (B.idx j)

theorem cast_key (n : ℕ) (Y : (⟨4, ![1, 1, n, 128]⟩ : Shape).Idx → EReal) (hs) (j : Fin n) (d : Fin 128) :
    shapeCast (⟨2, ![n, 128]⟩ : Shape) Y hs (ix2 j d) = Y (ix4 0 0 j d) :=
  shapeCast_apply Y hs _ _ (by
    rw [Shape.rowMajor_val_four, Shape.rowMajor_val_two]
    show ((0 * 1 + 0) * n + j.val) * 128 + d.val = j.val * 128 + d.val
    omega)

theorem cast_query (Y : (⟨4, ![1, 32, 8, 128]⟩ : Shape).Idx → EReal) (hs hs') (i : Fin 256) (d : Fin 128) :
    shapeCast (⟨2, ![256, 128]⟩ : Shape) (shapeCast (⟨3, ![32, 8, 128]⟩ : Shape) Y hs) hs' (ix2 i d) = Y (ix4 0 ⟨i.val / 8, by omega⟩ (hd i) d) := by
  pointwise
  congr 1

section

variable {sig : RefSig} {κ : Kind} {sp : Space}

theorem key_read (m : Memref sig κ sp S1x1x1024x128 .fp8e4m3) (hm : m.IsWhole) (X : Vec Ideal S1x1x1024x128 .fp8e4m3)
    (n : ℕ) (hn : n ≤ 1024) (inb hs) (j : Fin n) (d : Fin 128) :
    shapeCast (⟨2, ![n, 128]⟩ : Shape) (View.readAt (Elt Ideal) m.view (Rect.unit (s := S1x1x1024x128) ![0, 0, 0, 0] (⟨4, ![1, 1, n, 128]⟩ : Shape).size inb).toLoadRect (hm.unread X)) hs (ix2 j d)
      = X (ix4 0 0 ⟨j.val, by omega⟩ d) := by
  refine (cast_key n _ hs j d).trans ?_
  refine (Memref.IsWhole.readAt_unread hm X _ _).trans (congrArg X (funext fun a => ?_))
  apply Fin.ext
  fin_cases a
  · rfl
  · rfl
  · show 0 + 1 * j.val = j.val
    omega
  · show 0 + 1 * d.val = d.val
    omega

theorem query_read (m : Memref sig κ sp S1x1024x8x128 .fp8e4m3) (hm : m.IsWhole) (X : Vec Ideal S1x1024x8x128 .fp8e4m3)
    (t0 : ℕ) (ht : t0 + 32 ≤ 1024) (inb hs hs') (i : Fin 256) (d : Fin 128) :
    shapeCast (⟨2, ![256, 128]⟩ : Shape) (shapeCast (⟨3, ![32, 8, 128]⟩ : Shape) (View.readAt (Elt Ideal) m.view (Rect.unit (s := S1x1024x8x128) ![0, t0, 0, 0] (⟨4, ![1, 32, 8, 128]⟩ : Shape).size inb).toLoadRect (hm.unread X)) hs) hs' (ix2 i d)
      = X (ix4 0 (tok t0 ht i) (hd i) d) := by
  refine (cast_query _ hs hs' i d).trans ?_
  refine (Memref.IsWhole.readAt_unread hm X _ _).trans (congrArg X (funext fun a => ?_))
  apply Fin.ext
  fin_cases a
  · rfl
  · show t0 + 1 * (i.val / 8) = t0 + i.val / 8
    omega
  · show 0 + 1 * (i.val % 8) = i.val % 8
    omega
  · show 0 + 1 * d.val = d.val
    omega

theorem bias_read (v : View sig κ sp S1024x128 .f32) (inb) (w : Vec Ideal S1024x128 .f32) (l) (n : ℕ) (hn : n ≤ 1024) (inb' : ∀ a, (![0, 0] : Fin 2 → ℕ) a + (![n, 128] : Fin 2 → ℕ) a ≤ S1024x128.size a) (j : Fin n) (i : Fin 128) :
    v.readCov (⟨Rect.unit ![0, 0] S1024x128.size inb, w⟩ :: l) (Rect.unit (s := S1024x128) ![0, 0] (⟨2, ![n, 128]⟩ : Shape).size inb').toLoadRect (ix2 j i) = w (ix2 ⟨j.val, by omega⟩ i) := by
  refine (readCov_whole (Val := Elt Ideal) v (off := ![0, 0]) inb w l (Rect.unit _ _ inb').toLoadRect (ix2 j i)).trans (congrArg w (funext fun a => ?_))
  apply Fin.ext
  fin_cases a
  · show 0 + 1 * j.val = j.val
    omega
  · show 0 + 1 * i.val = i.val
    omega

theorem vt_read (v : View sig κ sp S128x1024 .bf16) (inb) (w : Vec Ideal S128x1024 .bf16) (l) (n : ℕ) (hn : n ≤ 1024) (inb' : ∀ a, (![0, 0] : Fin 2 → ℕ) a + (![128, n] : Fin 2 → ℕ) a ≤ S128x1024.size a) (d : Fin 128) (j : Fin n) :
    v.readCov (⟨Rect.unit ![0, 0] S128x1024.size inb, w⟩ :: l) (Rect.unit (s := S128x1024) ![0, 0] (⟨2, ![128, n]⟩ : Shape).size inb').toLoadRect (ix2 d j) = w (ix2 d ⟨j.val, by omega⟩) := by
  refine (readCov_whole (Val := Elt Ideal) v (off := ![0, 0]) inb w l (Rect.unit _ _ inb').toLoadRect (ix2 d j)).trans (congrArg w (funext fun a => ?_))
  apply Fin.ext
  fin_cases a
  · show 0 + 1 * d.val = d.val
    omega
  · show 0 + 1 * j.val = j.val
    omega

end

end Cert.Fox

end
-- ==== Proof.Base.lean ====
module

public import proofs.«01_k».proof.Proof.Reads

@[expose] public section

set_option maxRecDepth 16384

/-! # One grid point's data

`Base x …` says that the staged blocks, the logit scale, the key bias and the transposed values of a grid point hold `x`. -/

noncomputable section

namespace Cert.Fox

open Idealize.ShloMosaic Idealize.ShloMosaic.TcCoe Cert.KernelIdeal Cert.KernelIdeal.Gen

variable (c : Dev nD) (i : grid0.Coords) (arg2 : Memref sig .tc .smem S3x16 .f32) (harg2 : arg2.IsWhole) (arg3 : Memref sig .tc .smem S3x2 .f32) (harg3 : arg3.IsWhole) (arg4 : Memref sig .tc .vmem S1x1024x8x128 .fp8e4m3) (harg4 : arg4.IsWhole) (arg5 : Memref sig .tc .vmem S1x1x1024x128 .fp8e4m3) (harg5 : arg5.IsWhole) (arg6 : Memref sig .tc .vmem S1x1x1024x128 .fp8e4m3) (harg6 : arg6.IsWhole) (arg7 : Memref sig .tc .vmem S1x1x1x128 .f32) (harg7 : arg7.IsWhole) (arg8 : Memref sig .tc .vmem S1x1x8x1024 .f32) (harg8 : arg8.IsWhole) (x0 : Vec Ideal S3x16 .f32) (x1 : Vec Ideal S3x2 .f32) (x2 : Vec Ideal S1x1024x8x128 .fp8e4m3) (x3 : Vec Ideal S1x1x1024x128 .fp8e4m3) (x4 : Vec Ideal S1x1x1024x128 .fp8e4m3) (x5 : Vec Ideal S1x1x1x128 .f32) (x6 : Vec Ideal S1x1x8x1024 .f32)

/-- The grid point's blocks and the values it derives before the first tile, read as `x`. -/
structure Base (x : In) : Prop where
  k : ∀ j d, x3 (ix4 0 0 j d) = x.k j d
  q : ∀ t h d, x2 (ix4 0 t h d) = x.q t h d
  s : ∀ l : Fin 256, (kernelRun0_A.sl.r_11 (F := Ideal) c i arg2 harg2 arg3 harg3 x0 x1) (ix2 0 l) = x.s (hd l)
  b : ∀ (j : Fin 1024) (l : Fin 128), (kernelRun0_A.sl.v137 (F := Ideal) c arg8 harg8 x6) (ix2 j l) = x.b ⟨l.val % 8, Nat.mod_lt _ (by norm_num)⟩ j
  v : ∀ (d : Fin 128) (j : Fin 1024), (kernelRun0_A.sl.v144 (F := Ideal) c arg6 harg6 x4) (ix2 d j) = x.v j d
  vs : ∀ d : Fin 128, (kernelRun0_A.sl.r_12 (F := Ideal) c arg7 harg7 x5) (ix2 0 d) = x.vs d

/-- The causal mask within a tile. -/
theorem causal (a : Fin 32) (l : Fin 256) : k0_pay20 (ix2 a l) = if a.val ≤ l.val / 8 then 1#1 else 0#1 := by
  revert a l
  intro a l
  unfold k0_pay20
  pointwise
  revert a l
  decide +kernel

end Cert.Fox

end
-- ==== Proof.Word.lean ====
module

public import proofs.«01_k».proof.Proof.Base

@[expose] public section

set_option maxRecDepth 16384

/-! # From a tile's output block to the stored rows

The kernel packs two query tokens into one word array, then loads every eighth word: the rows of one head. -/

noncomputable section

namespace Cert.Fox

open Idealize.ShloMosaic Idealize.ShloMosaic.TcCoe Cert.KernelIdeal Cert.KernelIdeal.Gen

/-- The kernel's constant `log₂ e`. -/
theorem log2e_val : (Named.named κ "log2e" 0x3FB8AA3B#32 : Ideal .f32) = (L : EReal) :=
  IdealRules.named_const.ideal_named_scalar _ _ _ _ rfl

theorem neg_log2e_val : (Named.named κ "neg_log2e" 0xBFB8AA3B#32 : Ideal .f32) = ((-L : ℝ) : EReal) :=
  IdealRules.named_const.ideal_named_scalar _ _ _ _ rfl

theorem ln2_val : (Named.named κ "ln2" 0x3F317218#32 : Ideal .f32) = ((Real.log 2 : ℝ) : EReal) :=
  IdealRules.named_const.ideal_named_scalar _ _ _ _ rfl

/-- The word array at a word, a half and a feature. -/
theorem word_apply (vs : FVec Ideal S1x128 .f32) (O : FVec Ideal S128x256 .f32) (p : Fin 128) (a : Fin 2) (d : Fin 128) :
    k0_pay51 vs O (ix3 p a d) = O (ix2 d ⟨p.val / 8 * 16 + a.val * 8 + p.val % 8, by omega⟩) * vs (ix2 0 d) := by
  unfold k0_pay51
  pointwise
  rcases Nat.lt_or_ge a.val 1 with h | h
  · have ha : a.val = 0 := by omega
    rw [if_pos (by omega)]
    congr 3
    apply Fin.ext
    show p.val / 8 * 16 + p.val % 8 = p.val / 8 * 16 + a.val * 8 + p.val % 8
    omega
  · have ha : a.val = 1 := by omega
    rw [if_neg (by omega)]
    congr 3
    apply Fin.ext
    show p.val / 8 * 16 + 8 + p.val % 8 = p.val / 8 * 16 + a.val * 8 + p.val % 8
    omega

/-- The rows of one head at a row and a feature. -/
theorem rows_apply (raw : Vec Ideal S16x2x128 .bf16) (r : Fin 32) (d : Fin 128) :
    k0_pay31 raw (ix3 0 r d) = raw (ix3 ⟨r.val / 2, by omega⟩ ⟨r.val % 2, by omega⟩ d) := by
  unfold k0_pay31
  pointwise
  split <;> congr 2 <;> apply Fin.ext
  · show 0 = r.val % 2
    omega
  · show 1 = r.val % 2
    omega

theorem stat0_apply (m l : FVec Ideal S1x256 .f32) (i : Fin 128) :
    k0_pay49 m l (ix2 0 i) = m (ix2 0 ⟨i.val, by omega⟩) + l (ix2 0 ⟨i.val, by omega⟩) * (L : EReal) := by
  unfold k0_pay49 k0_pay48
  pointwise
  rw [log2e_val]

theorem stat1_apply (m l : FVec Ideal S1x256 .f32) (i : Fin 128) :
    k0_pay50 m l (ix2 0 i) = m (ix2 0 ⟨128 + i.val, by omega⟩) + l (ix2 0 ⟨128 + i.val, by omega⟩) * (L : EReal) := by
  unfold k0_pay50 k0_pay48
  pointwise
  rw [log2e_val]

/-- The staged output block a grid point leaves. -/
def oG (x : In) (y : S1x1024x1024.Idx) : EReal :=
  x.out ⟨(y 1).val, (y 1).isLt⟩ ⟨(y 2).val / 128, by have : (y 2).val < 1024 := (y 2).isLt; omega⟩ ⟨(y 2).val % 128, Nat.mod_lt _ (by norm_num)⟩
    * x.vs ⟨(y 2).val % 128, Nat.mod_lt _ (by norm_num)⟩

/-- The statistics array a grid point leaves: sixteen tokens of eight heads to a row. -/
def sG (x : In) (y : S64x128.Idx) : EReal :=
  x.stat ⟨(y 0).val * 16 + (y 1).val / 8, by have : (y 0).val < 64 := (y 0).isLt; have : (y 1).val < 128 := (y 1).isLt; omega⟩
    ⟨(y 1).val % 8, Nat.mod_lt _ (by norm_num)⟩

theorem ix3_ex {n1 n2 : ℕ} (z : (⟨3, ![1, n1, n2]⟩ : Shape).Idx) : ∃ (r : Fin n1) (d : Fin n2), z = ix3 0 r d := by
  refine ⟨z 1, z 2, funext fun a => Fin.ext ?_⟩
  fin_cases a
  · show (z 0).val = 0
    have : (z 0).val < 1 := (z 0).isLt
    omega
  · rfl
  · rfl

theorem ix2_ex {n1 : ℕ} (z : (⟨2, ![1, n1]⟩ : Shape).Idx) : ∃ r : Fin n1, z = ix2 0 r := by
  refine ⟨z 1, funext fun a => Fin.ext ?_⟩
  fin_cases a
  · show (z 0).val = 0
    have : (z 0).val < 1 := (z 0).isLt
    omega
  · rfl

/-- The stored rows of head `h` of the tile at `t0`. -/
theorem o_piece {sp : Space} {v : View sig .tc sp S128x2x128 .bf16} {x : In} {t0 : ℕ} {ht : t0 + 32 ≤ 1024} {l inb vs}
    (hl : ∃ O rest, OutOk x t0 ht O ∧ l = (⟨Rect.unit ![0, 0, 0] S128x2x128.size inb, k0_pay51 vs O⟩ : View.Piece (Elt Ideal) S128x2x128 .bf16) :: rest)
    (hvs : ∀ d, vs (ix2 0 d) = x.vs d) (h : ℕ) (hh : h < 8) (o : ℕ) (ho : o = 128 * h) (inb1 inb2)
    (z : (⟨3, ![1, 32, 128]⟩ : Shape).Idx) :
    k0_pay31 (v.readCov l { off := ![h, 0, 0], size := S16x2x128.size, stride := ![8, 1, 1], inb := inb1 }) z
      = oG x ((Rect.unit (s := S1x1024x1024) ![0, t0, o] S1x32x128.size inb2).emb z) := by
  obtain ⟨O, rest, hO, rfl⟩ := hl
  obtain ⟨z1, z2, rfl⟩ := ix3_ex z
  refine (rows_apply _ z1 z2).trans ?_
  refine (readCov_whole (Val := Elt Ideal) v inb (k0_pay51 vs O) rest { off := ![h, 0, 0], size := S16x2x128.size, stride := ![8, 1, 1], inb := inb1 } _).trans ?_
  have e : ∀ (a : Fin 16) (b : Fin 2) (d : Fin 128), (LoadRect.idx (s := S128x2x128) { off := ![h, 0, 0], size := S16x2x128.size, stride := ![8, 1, 1], inb := inb1 } (ix3 a b d)) = ix3 (⟨h + 8 * a.val, by omega⟩ : Fin 128) b d := by
    intro a b d
    funext k
    apply Fin.ext
    fin_cases k
    · rfl
    · show 0 + 1 * b.val = b.val
      omega
    · show 0 + 1 * d.val = d.val
      omega
  refine (congrArg (k0_pay51 vs O) (e _ _ _)).trans ?_
  refine (word_apply vs O _ _ _).trans ?_
  rw [hO, hvs]
  unfold oG
  congr 2
  · apply Fin.ext
    show t0 + ((h + 8 * (z1.val / 2)) / 8 * 16 + z1.val % 2 * 8 + (h + 8 * (z1.val / 2)) % 8) / 8 = t0 + 1 * z1.val
    omega
  · apply Fin.ext
    show ((h + 8 * (z1.val / 2)) / 8 * 16 + z1.val % 2 * 8 + (h + 8 * (z1.val / 2)) % 8) % 8 = (o + 1 * z2.val) / 128
    omega
  · apply Fin.ext
    show z2.val = (o + 1 * z2.val) % 128
    omega
  · apply Fin.ext
    show z2.val = (o + 1 * z2.val) % 128
    omega

theorem s0_piece {x : In} {t0 : ℕ} {ht : t0 + 32 ≤ 1024} {M S} (hS : StatOk x t0 ht M S) (r : ℕ) (hr : r * 16 = t0) (inb)
    (z : (⟨2, ![1, 128]⟩ : Shape).Idx) :
    k0_pay49 M (log S) z = sG x ((Rect.unit (s := S64x128) ![r, 0] S1x128.size inb).emb z) := by
  obtain ⟨z1, rfl⟩ := ix2_ex z
  refine (stat0_apply M (log S) z1).trans ?_
  obtain ⟨h1, h2⟩ := hS ⟨z1.val, by omega⟩
  show M _ + Ideal.log (S _) * _ = _
  rw [h1, h2]
  show x.stat _ _ = x.stat _ _
  congr 1
  · apply Fin.ext
    show t0 + z1.val / 8 = (r + 1 * 0) * 16 + (0 + 1 * z1.val) / 8
    omega
  · apply Fin.ext
    show z1.val % 8 = (0 + 1 * z1.val) % 8
    omega

theorem s1_piece {x : In} {t0 : ℕ} {ht : t0 + 32 ≤ 1024} {M S} (hS : StatOk x t0 ht M S) (r : ℕ) (hr : r * 16 = t0 + 16) (inb)
    (z : (⟨2, ![1, 128]⟩ : Shape).Idx) :
    k0_pay50 M (log S) z = sG x ((Rect.unit (s := S64x128) ![r, 0] S1x128.size inb).emb z) := by
  obtain ⟨z1, rfl⟩ := ix2_ex z
  refine (stat1_apply M (log S) z1).trans ?_
  obtain ⟨h1, h2⟩ := hS ⟨128 + z1.val, by omega⟩
  show M _ + Ideal.log (S _) * _ = _
  rw [h1, h2]
  show x.stat _ _ = x.stat _ _
  congr 1
  · apply Fin.ext
    show t0 + (128 + z1.val) / 8 = (r + 1 * 0) * 16 + (0 + 1 * z1.val) / 8
    omega
  · apply Fin.ext
    show (128 + z1.val) % 8 = (0 + 1 * z1.val) % 8
    omega

end Cert.Fox

end
-- ==== Proof.Gate.lean ====
module

public import proofs.«01_k».proof.Proof.Base
public import proofs.«01_k».proof.Proof.Word

@[expose] public section

set_option maxRecDepth 16384

/-! # The gate's running sums

The logarithm of the sigmoid, its sums within blocks of 128 tokens as one product with a triangular
matrix, and the carries from block to block. -/

noncomputable section

namespace Cert.Fox

open Idealize.ShloMosaic Idealize.ShloMosaic.TcCoe Cert.KernelIdeal Cert.KernelIdeal.Gen

/-- The logarithm of the sigmoid, as the vector unit computes it. -/
def ls8 (v1 : FVec Ideal S8x1024 .f32) : FVec Ideal S8x1024 .f32 :=
  have z : FVec Ideal S8x1024 .f32 := broadcast S8x1024 (Scalar.ofBits .f32 0x00000000#32)
  have v3 := subf z v1
  have v7 := subf v3 z
  subf z (select (cmpf .one v7 v7) (addf v3 z) (addf (maximumf v3 z) (log1p (exp (subf z (absf v7))))))

/-- The logarithm of the sigmoid. -/
def ls (a : EReal) : ℝ := -(max (-a.toReal) 0 + Real.log (1 + Real.exp (-|a.toReal|))) * (if a = ⊤ then 0 else 1)

theorem ls_eq (a : EReal) (ha : a ≠ ⊥) :
    (0 - if 0 - a ≠ 0 - a then 0 - a else max (0 - a) 0 + Ideal.log1p (Ideal.exp (0 - FloatOps.absf (F := Ideal) (φ := .f32) (0 - a)))) = ((ls a : ℝ) : EReal) := by
  rw [if_neg (fun h => h rfl)]
  induction a with
  | bot => exact absurd rfl ha
  | top =>
    have e : (0 : EReal) - ⊤ = ⊥ := rfl
    have e2 : (0 : EReal) - max (⊥ : EReal) (-⊥) = ⊥ := rfl
    rw [e, Ideal.absf_def, e2, Ideal.exp_bot]
    have e3 : Ideal.log1p (0 : EReal) = 0 := by
      show Ideal.log (1 + 0) = 0
      rw [add_zero, ← EReal.coe_one, Ideal.log_coe, if_neg (by norm_num), Real.log_one]; rfl
    rw [e3, max_eq_right bot_le, add_zero, sub_zero]
    simp [ls]
  | coe a =>
    have e : (0 : EReal) - (a : EReal) = ((-a : ℝ) : EReal) := by rw [zero_sub]; rfl
    have em : ∀ p q : ℝ, max (p : EReal) (q : EReal) = ((max p q : ℝ) : EReal) := fun p q => (EReal.coe_strictMono.monotone.map_max).symm
    have e2 : (0 : EReal) - max ((-a : ℝ) : EReal) (-((-a : ℝ) : EReal)) = ((-|a| : ℝ) : EReal) := by
      rw [← EReal.coe_neg, em, zero_sub, ← EReal.coe_neg]
      congr 2
      rw [neg_neg, max_comm]; rfl
    have e3 : Ideal.log1p ((Real.exp (-|a|) : ℝ) : EReal) = ((Real.log (1 + Real.exp (-|a|)) : ℝ) : EReal) := by
      show Ideal.log (1 + ((Real.exp (-|a|) : ℝ) : EReal)) = _
      rw [← EReal.coe_one, ← EReal.coe_add, Ideal.log_coe, if_neg (not_le.2 (by positivity))]
    rw [e, Ideal.absf_def, e2, Ideal.exp_coe, e3, ← EReal.coe_zero, em, ← EReal.coe_add, ← EReal.coe_sub]
    congr 1
    simp [ls]

theorem ls8_apply (v i) (hv : v i ≠ ⊥) : ls8 v i = ((ls (v i) : ℝ) : EReal) := by
  rw [← ls_eq _ hv]
  unfold ls8
  pointwise

/-- The eight blocks of 128 tokens, one under another. -/
def fold8 (v19 : FVec Ideal S8x1024 .f32) : FVec Ideal S64x128 .f32 :=
  concatenate S64x128 0 [⟨S8x128, extractStridedSlice S8x128 ![0, 0] v19 slices_S8x1024_o0_0_S8x128⟩,
    ⟨S8x128, extractStridedSlice S8x128 ![0, 128] v19 slices_S8x1024_o0_128_S8x128⟩, ⟨S8x128, extractStridedSlice S8x128 ![0, 256] v19 slices_S8x1024_o0_256_S8x128⟩,
    ⟨S8x128, extractStridedSlice S8x128 ![0, 384] v19 slices_S8x1024_o0_384_S8x128⟩, ⟨S8x128, extractStridedSlice S8x128 ![0, 512] v19 slices_S8x1024_o0_512_S8x128⟩,
    ⟨S8x128, extractStridedSlice S8x128 ![0, 640] v19 slices_S8x1024_o0_640_S8x128⟩, ⟨S8x128, extractStridedSlice S8x128 ![0, 768] v19 slices_S8x1024_o0_768_S8x128⟩,
    ⟨S8x128, extractStridedSlice S8x128 ![0, 896] v19 slices_S8x1024_o0_896_S8x128⟩] concatenates_S8x128_S8x128_S8x128_S8x128_S8x128_S8x128_S8x128_S8x128_S64x128_d0

theorem fold8_apply (v) (r : Fin 64) (i : Fin 128) :
    fold8 v (ix2 r i) = v (ix2 ⟨r.val % 8, Nat.mod_lt _ (by norm_num)⟩ ⟨128 * (r.val / 8) + i.val, by omega⟩) := by
  unfold fold8
  pointwise
  split_ifs <;> congr 2 <;> apply Fin.ext <;> simp only [] <;> omega

/-- The triangular matrix. -/
def tri : FVec Ideal S128x128 .bf16 :=
  truncf .bf16 (sitofp .f32 (extui 32 (cmpi .sle (iota .tc S128x128 32 [0] iota_S128x128_d0_w32) (iota .tc S128x128 32 [1] iota_S128x128_d1_w32)) natLt_1_32)) bitsLt_bf16_f32

theorem tri_apply (k c : Fin 128) : tri (ix2 k c) = if k.val ≤ c.val then 1 else 0 := by
  have e : cmpi .sle (iota .tc S128x128 32 [0] iota_S128x128_d0_w32) (iota .tc S128x128 32 [1] iota_S128x128_d1_w32) (ix2 k c) =
      if k.val ≤ c.val then 1#1 else 0#1 := by
    pointwise
    revert k c; decide +kernel
  show (((Scalar.extui (cmpi .sle (iota .tc S128x128 32 [0] iota_S128x128_d0_w32) (iota .tc S128x128 32 [1] iota_S128x128_d1_w32) (ix2 k c)) : BitVec 32).toInt : ℝ) : EReal) = _
  rw [e]
  split <;> simp [Scalar.extui]

/-- The sums within the blocks. -/
def sums (v28 : FVec Ideal S64x128 .f32) : FVec Ideal S64x128 .f32 :=
  have v36 : FVec Ideal S64x128 .f32 := extf .f32 (truncf .bf16 v28 bitsLt_bf16_f32) bitsLt_bf16_f32
  have v37 := subf v28 v36
  have v39 : FVec Ideal S64x128 .f32 := extf .f32 (truncf .bf16 v37 bitsLt_bf16_f32) bitsLt_bf16_f32
  have v40 := subf v37 v39
  matmul (DotDims.plain 64 384 128) none
    (truncf .bf16 (concatenate S64x384 1 [⟨S64x128, v36⟩, ⟨S64x128, v39⟩, ⟨S64x128, v40⟩] concatenates_S64x128_S64x128_S64x128_S64x384_d1) bitsLt_bf16_f32)
    (concatenate S384x128 0 [⟨S128x128, tri⟩, ⟨S128x128, tri⟩, ⟨S128x128, tri⟩] concatenates_S128x128_S128x128_S128x128_S384x128_d0)
    (constant S64x128 .f32 0x00000000#32)

theorem pay2_eq (v0) : k0_pay2 (F := Ideal) v0 = sums (fold8 (ls8 (shapeCast S8x1024 v0 shapeCasts_S1x1x8x1024_S8x1024))) := rfl

theorem sub_self_coe (a : ℝ) : (a : EReal) - (a : EReal) = 0 := by
  rw [← EReal.coe_sub, sub_self]; rfl

theorem sums_apply (v : FVec Ideal S64x128 .f32) (y : ℕ → ℝ) (r : Fin 64) (c : Fin 128) (hv : ∀ i : Fin 128, v (ix2 r i) = ((y i.val : ℝ) : EReal)) :
    sums v (ix2 r c) = ((∑ i ∈ Finset.range (c.val + 1), y i : ℝ) : EReal) := by
  have e : sums v (ix2 r c) = ∑ x : Fin 384, if x.val < c.val + 1 then ((y x.val : ℝ) : EReal) else 0 := by
    unfold sums
    pointwise
    refine Finset.sum_congr rfl fun x _ => ?_
    by_cases h1 : x.val < 128
    · rw [dif_pos h1, dif_pos h1, hv, tri_apply]
      by_cases h2 : x.val ≤ c.val
      · rw [if_pos h2, if_pos (show x.val < c.val + 1 by omega), mul_one]
      · rw [if_neg h2, if_neg (show ¬ x.val < c.val + 1 by omega), mul_zero]
    · rw [if_neg (show ¬ x.val < c.val + 1 by omega)]
      simp only [dif_neg h1, hv, sub_self_coe, sub_zero, dite_eq_ite, ite_self, zero_mul]
  rw [e, Fin.sum_univ_eq_sum_range (fun n => if n < c.val + 1 then ((y n : ℝ) : EReal) else 0) 384, coe_sum,
    ← Finset.sum_filter]
  refine Finset.sum_congr ?_ fun _ _ => rfl
  ext n
  simp only [Finset.mem_filter, Finset.mem_range]
  omega

/-- The carries: within a head, the block sums become sums from the first token on. -/
theorem pay6_apply (v) (P : ℕ → ℝ) (h : Fin 8) (j : Fin 1024) (h0 : P 0 = 0)
    (hv : ∀ (q : ℕ) (hq : q < 8) (c : Fin 128), v (ix2 ⟨8 * q + h.val, by omega⟩ c) = ((P (128 * q + c.val + 1) - P (128 * q) : ℝ) : EReal)) :
    k0_pay6 (F := Ideal) v (broadcast S8x1 (FloatOps.ofBits FTy.f32 0#32)) (extractStridedSlice S8x128 ![0, 0] v slices_S64x128_o0_0_S8x128)
      (broadcastTo S8x128 (broadcast S8x1 (FloatOps.ofBits FTy.f32 0#32)) broadcasts_S8x1_S8x128) (ix2 h j) = ((P (j.val + 1) : ℝ) : EReal) := by
  have a0 : ∀ (c : Fin 128) (n : ℕ), 0 + c.val + 1 = n → v (ix2 ⟨h.val, by omega⟩ c) = ((P n - P 0 : ℝ) : EReal) := by
    intro c n hn
    have := hv 0 (by norm_num) c
    rw [← hn]
    convert this using 3 <;> first | rfl | (apply Fin.ext; simp only []; omega) | skip
  have a1 : ∀ (c : Fin 128) (n : ℕ), 128 + c.val + 1 = n → v (ix2 ⟨8 + h.val, by omega⟩ c) = ((P n - P 128 : ℝ) : EReal) := by
    intro c n hn
    have := hv 1 (by norm_num) c
    rw [← hn]
    convert this using 3 <;> first | rfl | (apply Fin.ext; simp only []; omega) | skip
  have a2 : ∀ (c : Fin 128) (n : ℕ), 256 + c.val + 1 = n → v (ix2 ⟨16 + h.val, by omega⟩ c) = ((P n - P 256 : ℝ) : EReal) := by
    intro c n hn
    have := hv 2 (by norm_num) c
    rw [← hn]
    convert this using 3 <;> first | rfl | (apply Fin.ext; simp only []; omega) | skip
  have a3 : ∀ (c : Fin 128) (n : ℕ), 384 + c.val + 1 = n → v (ix2 ⟨24 + h.val, by omega⟩ c) = ((P n - P 384 : ℝ) : EReal) := by
    intro c n hn
    have := hv 3 (by norm_num) c
    rw [← hn]
    convert this using 3 <;> first | rfl | (apply Fin.ext; simp only []; omega) | skip
  have a4 : ∀ (c : Fin 128) (n : ℕ), 512 + c.val + 1 = n → v (ix2 ⟨32 + h.val, by omega⟩ c) = ((P n - P 512 : ℝ) : EReal) := by
    intro c n hn
    have := hv 4 (by norm_num) c
    rw [← hn]
    convert this using 3 <;> first | rfl | (apply Fin.ext; simp only []; omega) | skip
  have a5 : ∀ (c : Fin 128) (n : ℕ), 640 + c.val + 1 = n → v (ix2 ⟨40 + h.val, by omega⟩ c) = ((P n - P 640 : ℝ) : EReal) := by
    intro c n hn
    have := hv 5 (by norm_num) c
    rw [← hn]
    convert this using 3 <;> first | rfl | (apply Fin.ext; simp only []; omega) | skip
  have a6 : ∀ (c : Fin 128) (n : ℕ), 768 + c.val + 1 = n → v (ix2 ⟨48 + h.val, by omega⟩ c) = ((P n - P 768 : ℝ) : EReal) := by
    intro c n hn
    have := hv 6 (by norm_num) c
    rw [← hn]
    convert this using 3 <;> first | rfl | (apply Fin.ext; simp only []; omega) | skip
  have a7 : ∀ (c : Fin 128) (n : ℕ), 896 + c.val + 1 = n → v (ix2 ⟨56 + h.val, by omega⟩ c) = ((P n - P 896 : ℝ) : EReal) := by
    intro c n hn
    have := hv 7 (by norm_num) c
    rw [← hn]
    convert this using 3 <;> first | rfl | (apply Fin.ext; simp only []; omega) | skip
  unfold k0_pay6
  pointwise
  split
  · rw [a0 _ (j.val + 1) (by simp only []; omega)]
    try simp only [← EReal.coe_add]
    congr 1
    rw [h0]; ring
  split
  · rw [a1 _ (j.val + 1) (by simp only []; omega), a0 127 128 (by rfl)]
    try simp only [← EReal.coe_add]
    congr 1
    rw [h0]; ring
  split
  · rw [a2 _ (j.val + 1) (by simp only []; omega), a0 127 128 (by rfl), a1 127 256 (by rfl)]
    try simp only [← EReal.coe_add]
    congr 1
    rw [h0]; ring
  split
  · rw [a3 _ (j.val + 1) (by simp only []; omega), a0 127 128 (by rfl), a1 127 256 (by rfl), a2 127 384 (by rfl)]
    try simp only [← EReal.coe_add]
    congr 1
    rw [h0]; ring
  split
  · rw [a4 _ (j.val + 1) (by simp only []; omega), a0 127 128 (by rfl), a1 127 256 (by rfl), a2 127 384 (by rfl), a3 127 512 (by rfl)]
    try simp only [← EReal.coe_add]
    congr 1
    rw [h0]; ring
  split
  · rw [a5 _ (j.val + 1) (by simp only []; omega), a0 127 128 (by rfl), a1 127 256 (by rfl), a2 127 384 (by rfl), a3 127 512 (by rfl), a4 127 640 (by rfl)]
    try simp only [← EReal.coe_add]
    congr 1
    rw [h0]; ring
  split
  · rw [a6 _ (j.val + 1) (by simp only []; omega), a0 127 128 (by rfl), a1 127 256 (by rfl), a2 127 384 (by rfl), a3 127 512 (by rfl), a4 127 640 (by rfl), a5 127 768 (by rfl)]
    try simp only [← EReal.coe_add]
    congr 1
    rw [h0]; ring
  rw [a7 _ (j.val + 1) (by simp only []; omega), a0 127 128 (by rfl), a1 127 256 (by rfl), a2 127 384 (by rfl), a3 127 512 (by rfl), a4 127 640 (by rfl), a5 127 768 (by rfl), a6 127 896 (by rfl)]
  simp only [← EReal.coe_add]
  congr 1
  rw [h0]; ring

/-- The sums' parts, one under another. -/
def parts (w : FVec Ideal S8x1024 .f32) : FVec Ideal S32x1024 .bf16 :=
  have v86 := mulf w (broadcast S8x1024 (Named.named κ "neg_log2e" 0xBFB8AA3B#32))
  have v88 : FVec Ideal S8x1024 .f32 := extf .f32 (truncf .bf16 v86 bitsLt_bf16_f32) bitsLt_bf16_f32
  have v89 := subf v86 v88
  have v91 : FVec Ideal S8x1024 .f32 := extf .f32 (truncf .bf16 v89 bitsLt_bf16_f32) bitsLt_bf16_f32
  have v92 := subf v89 v91
  truncf .bf16 (concatenate S32x1024 0 [⟨S8x1024, v88⟩, ⟨S8x1024, v91⟩, ⟨S8x1024, v92⟩, ⟨S8x1024, broadcast S8x1024 (Scalar.ofBits .f32 0x00000000#32)⟩] concatenates_S8x1024_S8x1024_S8x1024_S8x1024_S32x1024_d0) bitsLt_bf16_f32

theorem parts_eq (v a b c) : k0_pay7 (F := Ideal) v a b c = parts (k0_pay6 v a b c) := rfl

theorem parts_apply (w : FVec Ideal S8x1024 .f32) (y : Fin 8 → ℝ) (j : Fin 1024) (hw : ∀ h, w (ix2 h j) = ((y h : ℝ) : EReal)) (r : Fin 32) :
    parts w (ix2 r j) = if h : r.val < 8 then ((y ⟨r.val, h⟩ * (-L) : ℝ) : EReal) else 0 := by
  unfold parts
  pointwise
  simp only [hw, neg_log2e_val, ← EReal.coe_mul, ← EReal.coe_sub, sub_self]
  split_ifs <;> simp

/-- The one-hot matrix of heads. -/
def hot (m : IVec S32x128 1) : FVec Ideal S32x128 .bf16 :=
  truncf .bf16 (sitofp .f32 (extui 32 m natLt_1_32)) bitsLt_bf16_f32

theorem hot_matmul (a : FVec Ideal S32x1024 .bf16) (b : FVec Ideal S32x128 .bf16) (j : Fin 1024) (l : Fin 128) :
  matmul dot_S32x1024_S32x128_S1024x128_0_0_1_1_n_n none a b (constant S1024x128 FTy.f32 0#32) (ix2 j l) = ∑ k : Fin 32, a (ix2 k j) * b (ix2 k l) := by
  pointwise

theorem hot_pick (a : FVec Ideal S32x1024 .bf16) (b : FVec Ideal S32x128 .bf16) (y : Fin 8 → EReal) (j : Fin 1024) (l : Fin 128)
    (ha : ∀ r : Fin 32, a (ix2 r j) = if h : r.val < 8 then y ⟨r.val, h⟩ else 0)
    (hb : ∀ r : Fin 32, b (ix2 r l) = if r.val % 8 = l.val % 8 then 1 else 0) :
    (∑ k : Fin 32, a (ix2 k j) * b (ix2 k l)) = y ⟨l.val % 8, Nat.mod_lt _ (by norm_num)⟩ := by
  rw [Finset.sum_eq_single (⟨l.val % 8, by omega⟩ : Fin 32)]
  · rw [ha, hb, dif_pos (show l.val % 8 < 8 from Nat.mod_lt _ (by norm_num)), if_pos (by show l.val % 8 % 8 = _; omega), mul_one]
  · intro k _ hk
    rw [ha, hb]
    by_cases h : k.val < 8
    · rw [if_neg, mul_zero]
      intro h'
      apply hk
      apply Fin.ext
      show k.val = l.val % 8
      omega
    · rw [dif_neg h, zero_mul]
  · intro h
    exact absurd (Finset.mem_univ _) h

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32}

/-- The logarithm of the sigmoid of a head's gate logits, by token. -/
def lsig (x6 : FVec Ideal S1x1x8x1024 .f32) (h : Fin 8) (n : ℕ) : ℝ := if hn : n < 1024 then ls (x6 (ix4 0 0 h ⟨n, hn⟩)) else 0

/-- The running sum of the log gates through a token. -/
def cum (x6 : FVec Ideal S1x1x8x1024 .f32) (h : Fin 8) (t : Fin 1024) : ℝ := ∑ n ∈ Finset.range (t.val + 1), lsig x6 h n

theorem pay2_apply (hx : ∀ h t, x6 (ix4 0 0 h t) ≠ ⊥) (h : Fin 8) (q : ℕ) (hq : q < 8) (c : Fin 128) :
    k0_pay2 (F := Ideal) x6 (ix2 ⟨8 * q + h.val, by omega⟩ c) =
      (((∑ n ∈ Finset.range (128 * q + c.val + 1), lsig x6 h n) - (∑ n ∈ Finset.range (128 * q), lsig x6 h n) : ℝ) : EReal) := by
  rw [pay2_eq, sums_apply _ (fun n => lsig x6 h (128 * q + n))]
  · congr 1
    rw [add_assoc, Finset.sum_range_add _ (128 * q), add_sub_cancel_left]
  · intro i
    rw [fold8_apply]
    have e : ∀ (u : FVec Ideal S1x1x8x1024 .f32) (a : Fin 8) (b : Fin 1024), shapeCast S8x1024 u shapeCasts_S1x1x8x1024_S8x1024 (ix2 a b) = u (ix4 0 0 a b) := by
      intro u a b
      pointwise
    have eh : (⟨(8 * q + h.val) % 8, Nat.mod_lt _ (by norm_num)⟩ : Fin 8) = h := Fin.ext (by show (8 * q + h.val) % 8 = h.val; omega)
    have ei : (⟨128 * ((8 * q + h.val) / 8) + i.val, by omega⟩ : Fin 1024) = ⟨128 * q + i.val, by omega⟩ := Fin.ext (by show 128 * ((8 * q + h.val) / 8) + i.val = 128 * q + i.val; omega)
    rw [ls8_apply]
    · rw [e]
      show ((ls (x6 (ix4 0 0 ⟨(8 * q + h.val) % 8, _⟩ ⟨128 * ((8 * q + h.val) / 8) + i.val, _⟩)) : ℝ) : EReal) = _
      rw [eh, ei, lsig, dif_pos]
    · rw [e]
      exact hx _ _

theorem gate_read : View.readAt (Elt Ideal) arg8.view (Rect.unit (s := S1x1x8x1024) ![0, 0, 0, 0] S1x1x8x1024.size inb_S1x1x8x1024_S1x1x8x1024_0_0_0_0).toLoadRect (harg8.unread x6) = x6 := by
  funext z
  rw [Memref.IsWhole.readAt_unread]
  refine congrArg x6 (funext fun a => Fin.ext ?_)
  fin_cases a
  · show 0 + 1 * (z 0).val = (z 0).val
    omega
  · show 0 + 1 * (z 1).val = (z 1).val
    omega
  · show 0 + 1 * (z 2).val = (z 2).val
    omega
  · show 0 + 1 * (z 3).val = (z 3).val
    omega

theorem cum_apply (hx : ∀ h t, x6 (ix4 0 0 h t) ≠ ⊥) (h : Fin 8) (t : Fin 1024) : (kernelRun0_A.sl.r (F := Ideal) c arg8 harg8 x6) (ix2 h t) = ((cum x6 h t : ℝ) : EReal) := by
  have e : (kernelRun0_A.sl.r (F := Ideal) c arg8 harg8 x6) = k0_pay6 (k0_pay2 (F := Ideal) (View.readAt (Elt Ideal) arg8.view (Rect.unit (s := S1x1x8x1024) ![0, 0, 0, 0] S1x1x8x1024.size inb_S1x1x8x1024_S1x1x8x1024_0_0_0_0).toLoadRect (harg8.unread x6)))
    (broadcast S8x1 (FloatOps.ofBits FTy.f32 0#32)) (extractStridedSlice S8x128 ![0, 0] (k0_pay2 (F := Ideal) (View.readAt (Elt Ideal) arg8.view (Rect.unit (s := S1x1x8x1024) ![0, 0, 0, 0] S1x1x8x1024.size inb_S1x1x8x1024_S1x1x8x1024_0_0_0_0).toLoadRect (harg8.unread x6))) slices_S64x128_o0_0_S8x128)
      (broadcastTo S8x128 (broadcast S8x1 (FloatOps.ofBits FTy.f32 0#32)) broadcasts_S8x1_S8x128) := rfl
  rw [e, gate_read]
  exact pay6_apply _ (fun n => ∑ m ∈ Finset.range n, lsig x6 h m) h t (by simp) (fun q hq c => pay2_apply hx h q hq c)

theorem bias_apply (hx : ∀ h t, x6 (ix4 0 0 h t) ≠ ⊥) (j : Fin 1024) (l : Fin 128) :
    (kernelRun0_A.sl.v137 (F := Ideal) c arg8 harg8 x6) (ix2 j l) = ((cum x6 ⟨l.val % 8, Nat.mod_lt _ (by norm_num)⟩ j * (-L) : ℝ) : EReal) := by
  have e : ∀ r : Fin 32, (kernelRun0_A.sl.r_1 (F := Ideal) c arg8 harg8 x6) (ix2 r j) = if h : r.val < 8 then ((cum x6 ⟨r.val, h⟩ j * (-L) : ℝ) : EReal) else 0 := by
    intro r
    exact parts_apply ((kernelRun0_A.sl.r (F := Ideal) c arg8 harg8 x6)) (fun h => cum x6 h j) j (fun h => cum_apply hx h j) r
  have e2 : ∀ r : Fin 32, (kernelRun0_A.sl.v133 (F := Ideal)) (ix2 r l) = if r.val % 8 = l.val % 8 then 1 else 0 := by
    intro r
    have m : cmpi CmpIPredicate.eq kernelRun0_A.sl.v112 kernelRun0_A.sl.v129 (ix2 r l) = if r.val % 8 = l.val % 8 then 1#1 else 0#1 := by
      unfold kernelRun0_A.sl.v112 kernelRun0_A.sl.v129 kernelRun0_A.sl.v109 kernelRun0_A.sl.v108
      unfold kernelRun0_A.sl.v125 kernelRun0_A.sl.v119 kernelRun0_A.sl.v128
      unfold kernelRun0_A.sl.v121 kernelRun0_A.sl.v106 kernelRun0_A.sl.v103 kernelRun0_A.sl.v110 kernelRun0_A.sl.v113 k0_pay9 k0_pay8
      pointwise
      revert r l; decide +kernel
    show (((Scalar.extui (cmpi CmpIPredicate.eq kernelRun0_A.sl.v112 kernelRun0_A.sl.v129 (ix2 r l)) : BitVec 32).toInt : ℝ) : EReal) = _
    rw [m]
    split <;> simp [Scalar.extui]
  have e3 : ∀ (u : FVec Ideal S1024x128 .f32) hc, shapeCast S1024x128 u hc (ix2 j l) = u (ix2 j l) := by
    intro u hc
    pointwise
  unfold kernelRun0_A.sl.v137 kernelRun0_A.sl.v134
  refine (e3 _ _).trans ((hot_matmul _ _ j l).trans ?_)
  exact hot_pick _ _ (fun h => ((cum x6 h j * (-L) : ℝ) : EReal)) j l e e2

end Cert.Fox

end
-- ==== Proof.RefOps.lean ====
module

public import proofs.«01_k».proof.Proof.Gate
public import proofs.«01_k».proof.Proof.Rows
public import Idealize.ShloMosaic.Lib.Pipeline.ValueKit
public import Idealize.ShloMosaic.Lib.Claim
public import Idealize.ShloMosaic.Lib.StableHlo.ReadAt
public import proofs.«01_k».proof.Proof.Gen.ReferenceIdeal.Frame

@[expose] public section

/-! # The reference's operations before the softmax

The running sums of the log gates, the logits and the causal mask, each read at one index. The operations come in five
groups; `keep_n_x` says that group `n` leaves the array `x` alone. -/

noncomputable section
namespace Cert.FoxRef
open Idealize.ShloMosaic Idealize.ShloMosaic.TcCoe Idealize.ShloMosaic.Pointwise
open Idealize.SL.Sem
open Cert.Fox (ls ls_eq coe_sum)
open Cert.ReferenceIdeal Cert.ReferenceIdeal.Gen

/-- A fold of additions is the sum. -/
theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A running sum over the tokens. -/
theorem window_apply (x : FVec Ideal S3x1024x16 .f32) (v : FVec Ideal S_ .f32) (b : Fin 3) (t : Fin 1024) (h : Fin 16) :
    Host.reduceWindowAdd ![1, 1024, 1] ![1, 1, 1] ![0, 1023, 0] ![0, 0, 0] x v reduceWindows_S3x1024x16_S3x1024x16_w1s1p0_0_w1024s1p1023_0_w1s1p0_0 h_S_ (ix3 b t h)
      = v ix0 + ∑ k : Fin 1024, if hk : 1023 ≤ t.val + k.val then x (ix3 b ⟨t.val + k.val - 1023, by omega⟩ h) else v ix0 := by
  have hv : v (Shape.Idx.first h_S_) = v ix0 := congrArg v (funext fun a => Fin.elim0 a)
  unfold Host.reduceWindowAdd
  rw [Ideal.hostReduceWindowAdd_def, hv]
  unfold Ideal.hostReduceWindowAdd Host.reduceWindow
  refine (foldl_add (fun n => _) _ _).trans ?_
  rw [← Fin.sum_univ_def]
  refine congrArg₂ (· + ·) rfl ?_
  refine (Equiv.sum_comp (Shape.rowMajor (⟨3, ![1, 1024, 1]⟩ : Shape)).symm (fun i : (⟨3, ![1, 1024, 1]⟩ : Shape).Idx => (@dite EReal (∀ a : Fin 3, (![0, 1023, 0] : Fin 3 → ℕ) a ≤ (ix3 b t h a).val * (![1, 1, 1] : Fin 3 → ℕ) a + (i a).val
      ∧ (ix3 b t h a).val * (![1, 1, 1] : Fin 3 → ℕ) a + (i a).val - (![0, 1023, 0] : Fin 3 → ℕ) a < S3x1024x16.size a) (Nat.decidableForallFin _)
    (fun hin => x (fun a => ⟨(ix3 b t h a).val * (![1, 1, 1] : Fin 3 → ℕ) a + (i a).val - (![0, 1023, 0] : Fin 3 → ℕ) a, (hin a).2⟩)) (fun _ => v ix0)))).trans ?_
  rw [sum_idx3, Fin.sum_univ_one]
  refine Finset.sum_congr rfl fun k _ => ?_
  rw [Fin.sum_univ_one]
  by_cases hk : 1023 ≤ t.val + k.val
  · rw [dif_pos hk]
    refine (dif_pos ?_).trans ?_
    · intro a
      fin_cases a
      · exact ⟨Nat.zero_le _, by show b.val * 1 + 0 - 0 < 3; omega⟩
      · exact ⟨by show 1023 ≤ t.val * 1 + k.val; omega, by show t.val * 1 + k.val - 1023 < 1024; omega⟩
      · exact ⟨Nat.zero_le _, by show h.val * 1 + 0 - 0 < 16; omega⟩
    · refine congrArg x (funext fun a => Fin.ext ?_)
      fin_cases a
      · show b.val * 1 + 0 - 0 = b.val; omega
      · show t.val * 1 + k.val - 1023 = t.val + k.val - 1023; omega
      · show h.val * 1 + 0 - 0 = h.val; omega
  · rw [dif_neg hk]
    refine dif_neg fun hh => hk ?_
    have : 1023 ≤ t.val * 1 + k.val := (hh 1).1
    omega

/-- The running sum of real gates. -/
theorem cums_apply (x : FVec Ideal S3x1024x16 .f32) (v : FVec Ideal S_ .f32) (hv : v ix0 = (0 : EReal)) (b : Fin 3) (t : Fin 1024) (h : Fin 16) (y : ℕ → ℝ)
    (hy : ∀ n : Fin 1024, x (ix3 b n h) = ((y n.val : ℝ) : EReal)) :
    Host.reduceWindowAdd ![1, 1024, 1] ![1, 1, 1] ![0, 1023, 0] ![0, 0, 0] x v reduceWindows_S3x1024x16_S3x1024x16_w1s1p0_0_w1024s1p1023_0_w1s1p0_0 h_S_ (ix3 b t h)
      = ((∑ n ∈ Finset.range (t.val + 1), y n : ℝ) : EReal) := by
  rw [window_apply, hv, zero_add]
  have e : (∑ k : Fin 1024, if hk : 1023 ≤ t.val + k.val then x (ix3 b ⟨t.val + k.val - 1023, by omega⟩ h) else (0 : EReal)) =
      ∑ k : Fin 1024, (fun k : ℕ => if 1023 ≤ t.val + k then ((y (t.val + k - 1023) : ℝ) : EReal) else 0) k.val := by
    refine Finset.sum_congr rfl fun k _ => ?_
    by_cases hk : 1023 ≤ t.val + k.val
    · rw [dif_pos hk, hy]; exact (if_pos hk).symm
    · rw [dif_neg hk]; exact (if_neg hk).symm
  rw [e, Fin.sum_univ_eq_sum_range (fun k : ℕ => if 1023 ≤ t.val + k then ((y (t.val + k - 1023) : ℝ) : EReal) else 0) 1024, ← Finset.sum_filter, coe_sum]
  have ht := t.isLt
  refine Finset.sum_nbij' (fun k => t.val + k - 1023) (fun n => n + 1023 - t.val) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; simp only [Finset.mem_range] at hk ⊢; omega
  · intro k hk; rfl

variable (X : Valuation τ sig (Elt Ideal))

/-- The logarithm of a gate's sigmoid. -/
theorem gate_apply (y : S3x1024x16.Idx) (hy : (X (Proc.devRef .tc main_arg6) : Vec Ideal S3x1024x16 .f32) y ≠ (⊥ : EReal)) :
    (StableHlo.after hostOps1_1 X (Proc.devRef .tc main_v2) : Vec Ideal S3x1024x16 .f32) y = ((ls ((X (Proc.devRef .tc main_arg6) : Vec Ideal S3x1024x16 .f32) y) : ℝ) : EReal) := by
  rw [← ls_eq _ hy]
  after_reads_at
  simp only [zero_sub]

/-- The running sums, as one windowed sum. -/
theorem csum_eq : (StableHlo.after hostOps1_2 X (Proc.devRef .tc main_v3) : Vec Ideal S3x1024x16 .f32) =
    Host.reduceWindowAdd ![1, 1024, 1] ![1, 1, 1] ![0, 1023, 0] ![0, 0, 0] (X (Proc.devRef .tc main_v2) : FVec Ideal S3x1024x16 .f32) (broadcastInDim S_ ![] bcast_S_S_ (constant (F := Ideal) S_ .f32 0#32) : FVec Ideal S_ .f32) reduceWindows_S3x1024x16_S3x1024x16_w1s1p0_0_w1024s1p1023_0_w1s1p0_0 h_S_ := by
  after_reads_simp
  rfl

/-- A logit before masking. -/
theorem raw_apply (kx : FVec Ideal S3x1024x2x128 .bf16) (qx : FVec Ideal S3x1024x2x8x128 .bf16) (a1 : FVec Ideal S3x16 .f32) (a3 : FVec Ideal S3x2 .f32) (cs : FVec Ideal S3x1024x16 .f32)
    (hk : X (Proc.devRef .tc main_v0_1) = kx) (hq : X (Proc.devRef .tc main_v1) = qx) (h1 : X (Proc.devRef .tc main_arg1) = a1) (h3 : X (Proc.devRef .tc main_arg3) = a3) (hc : X (Proc.devRef .tc main_v3) = cs)
    (b : Fin 3) (k : Fin 2) (g : Fin 8) (q s : Fin 1024) : (StableHlo.after hostOps1_3 X (Proc.devRef .tc main_v22) : Vec Ideal S3x2x8x1024x1024 .f32) (ix5 b k g q s) =
    ((∑ d : Fin 128, (kx (ix4 b s k d) : EReal) * qx (ix5 b q k g d)) *
          ((a1 (ix2 b ⟨k.val * 8 + g.val, by omega⟩) * a3 (ix2 b k)) * Ideal.ofBits FTy.f32 1035273459#32) +
        cs (ix3 b q ⟨k.val * 8 + g.val, by omega⟩) - cs (ix3 b s ⟨k.val * 8 + g.val, by omega⟩) : EReal) := by
  rw [← hk, ← hq, ← h1, ← h3, ← hc]
  after_reads_at

/-- The causal mask. -/
theorem mask_apply (q s : Fin 1024) : (StableHlo.after hostOps1_3 X (Proc.devRef .tc main_v29) : IVec S1024x1024 1) (ix2 q s) = if s.val ≤ q.val then 1#1 else 0#1 := by
  after_reads_at
  have e : ∀ n : Fin 1024, (BitVec.ofNat 32 n.val).toInt = n.val := by
    intro n
    have h1 : (BitVec.ofNat 32 n.val).toNat = n.val := by rw [BitVec.toNat_ofNat]; omega
    rw [BitVec.toInt_eq_toNat_of_lt (by rw [h1]; omega), h1]
  show BitVec.ofBool (decide ((BitVec.ofNat 32 s.val).toInt ≤ (BitVec.ofNat 32 q.val).toInt)) = _
  rw [e, e]
  by_cases h : s.val ≤ q.val
  · rw [if_pos h, decide_eq_true (by exact_mod_cast h)]; rfl
  · rw [if_neg h, decide_eq_false (by exact_mod_cast h)]; rfl

/-- The value of the masked logits. -/
theorem ninf_apply : (StableHlo.after hostOps1_3 X (Proc.devRef .tc main_cst_0) : Vec Ideal S_ .f32) ix0 = (⊥ : EReal) := by
  after_reads_at
  simp [Ideal.ofBits, Ideal.ieee]

/-- The masked logits. -/
theorem sel_apply (b : Fin 3) (k : Fin 2) (g : Fin 8) (q s : Fin 1024) : (StableHlo.after hostOps1_4 X (Proc.devRef .tc main_v30) : Vec Ideal S3x2x8x1024x1024 .f32) (ix5 b k g q s) =
    Scalar.select ((X (Proc.devRef .tc main_v29) : IVec S1024x1024 1) (ix2 q s)) ((X (Proc.devRef .tc main_v22) : Vec Ideal S3x2x8x1024x1024 .f32) (ix5 b k g q s))
      ((X (Proc.devRef .tc main_cst_0) : Vec Ideal S_ .f32) ix0) := by
  after_reads_at
  rfl

/-- The queries, with their heads grouped by key head. -/
theorem head_apply (b : Fin 3) (t : Fin 1024) (k : Fin 2) (g : Fin 8) (d : Fin 128) : (StableHlo.after hostOps1 X (Proc.devRef .tc main_v1) : Vec Ideal S3x1024x2x8x128 .bf16) (ix5 b t k g d) =
    (X (Proc.devRef .tc main_v0_0) : Vec Ideal S3x1024x16x128 .bf16) (ix4 b t ⟨k.val * 8 + g.val, by omega⟩ d) := by
  after_reads_at

theorem keep_main_v0_2 : StableHlo.after hostOps1 X (Proc.devRef .tc main_v0_2) = X (Proc.devRef .tc main_v0_2) := by
  after_reads_simp
theorem keep_1_main_v0_2 : StableHlo.after hostOps1_1 X (Proc.devRef .tc main_v0_2) = X (Proc.devRef .tc main_v0_2) := by
  after_reads_simp
theorem keep_2_main_v0_2 : StableHlo.after hostOps1_2 X (Proc.devRef .tc main_v0_2) = X (Proc.devRef .tc main_v0_2) := by
  after_reads_simp
theorem keep_3_main_v0_2 : StableHlo.after hostOps1_3 X (Proc.devRef .tc main_v0_2) = X (Proc.devRef .tc main_v0_2) := by
  after_reads_simp
theorem keep_4_main_v0_2 : StableHlo.after hostOps1_4 X (Proc.devRef .tc main_v0_2) = X (Proc.devRef .tc main_v0_2) := by
  after_reads_simp
theorem keep_main_arg5 : StableHlo.after hostOps1 X (Proc.devRef .tc main_arg5) = X (Proc.devRef .tc main_arg5) := by
  after_reads_simp
theorem keep_1_main_arg5 : StableHlo.after hostOps1_1 X (Proc.devRef .tc main_arg5) = X (Proc.devRef .tc main_arg5) := by
  after_reads_simp
theorem keep_2_main_arg5 : StableHlo.after hostOps1_2 X (Proc.devRef .tc main_arg5) = X (Proc.devRef .tc main_arg5) := by
  after_reads_simp
theorem keep_3_main_arg5 : StableHlo.after hostOps1_3 X (Proc.devRef .tc main_arg5) = X (Proc.devRef .tc main_arg5) := by
  after_reads_simp
theorem keep_4_main_arg5 : StableHlo.after hostOps1_4 X (Proc.devRef .tc main_arg5) = X (Proc.devRef .tc main_arg5) := by
  after_reads_simp
theorem keep_main_v0_1 : StableHlo.after hostOps1 X (Proc.devRef .tc main_v0_1) = X (Proc.devRef .tc main_v0_1) := by
  after_reads_simp
theorem keep_1_main_v0_1 : StableHlo.after hostOps1_1 X (Proc.devRef .tc main_v0_1) = X (Proc.devRef .tc main_v0_1) := by
  after_reads_simp
theorem keep_2_main_v0_1 : StableHlo.after hostOps1_2 X (Proc.devRef .tc main_v0_1) = X (Proc.devRef .tc main_v0_1) := by
  after_reads_simp
theorem keep_1_main_v1 : StableHlo.after hostOps1_1 X (Proc.devRef .tc main_v1) = X (Proc.devRef .tc main_v1) := by
  after_reads_simp
theorem keep_2_main_v1 : StableHlo.after hostOps1_2 X (Proc.devRef .tc main_v1) = X (Proc.devRef .tc main_v1) := by
  after_reads_simp
theorem keep_main_arg1 : StableHlo.after hostOps1 X (Proc.devRef .tc main_arg1) = X (Proc.devRef .tc main_arg1) := by
  after_reads_simp
theorem keep_1_main_arg1 : StableHlo.after hostOps1_1 X (Proc.devRef .tc main_arg1) = X (Proc.devRef .tc main_arg1) := by
  after_reads_simp
theorem keep_2_main_arg1 : StableHlo.after hostOps1_2 X (Proc.devRef .tc main_arg1) = X (Proc.devRef .tc main_arg1) := by
  after_reads_simp
theorem keep_main_arg3 : StableHlo.after hostOps1 X (Proc.devRef .tc main_arg3) = X (Proc.devRef .tc main_arg3) := by
  after_reads_simp
theorem keep_1_main_arg3 : StableHlo.after hostOps1_1 X (Proc.devRef .tc main_arg3) = X (Proc.devRef .tc main_arg3) := by
  after_reads_simp
theorem keep_2_main_arg3 : StableHlo.after hostOps1_2 X (Proc.devRef .tc main_arg3) = X (Proc.devRef .tc main_arg3) := by
  after_reads_simp
theorem keep_main_arg6 : StableHlo.after hostOps1 X (Proc.devRef .tc main_arg6) = X (Proc.devRef .tc main_arg6) := by
  after_reads_simp
end Cert.FoxRef
-- ==== Proof.Prep.lean ====
module

public import proofs.«01_k».proof.Proof.Base
public import proofs.«01_k».proof.Proof.Word

@[expose] public section

set_option maxRecDepth 16384

/-! # The scales, as a tile reads them

The queries' scale is one number of eight, chosen by the lane; the values' scale is one row; the
values are transposed. -/

noncomputable section

namespace Cert.Fox

open Idealize.ShloMosaic Idealize.ShloMosaic.TcCoe Cert.KernelIdeal Cert.KernelIdeal.Gen

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32}

/-- The lane's head. -/
theorem lane_head (l : Fin 256) : kernelRun0_A.sl.v161 (ix2 0 l) = BitVec.ofNat 32 (l.val % 8) := by
  unfold kernelRun0_A.sl.v161 kernelRun0_A.sl.v157 kernelRun0_A.sl.v151 kernelRun0_A.sl.v160
    kernelRun0_A.sl.v153 kernelRun0_A.sl.v155 kernelRun0_A.sl.v145 kernelRun0_A.sl.v148
    kernelRun0_A.sl.v150
  pointwise
  revert l; decide +kernel

/-- A read of the queries' scales. -/
theorem qs_read (r : Fin 8) (h : ∀ a, (k0_off1 i (BitVec.ofNat 32 r.val)) a + S1x1.size a ≤ S3x16.size a) (hf) :
    View.readAt (Elt Ideal) arg2.view (Rect.unit (s := S3x16) (k0_off1 i (BitVec.ofNat 32 r.val)) S1x1.size h).toLoadRect
      (harg2.unread x0) (Shape.Idx.first hf) =
      x0 (ix2 ⟨(i 0).val, (i 0).isLt⟩ ⟨8 * (i 1).val + r.val, by have := (i 1).isLt; change (i 1).val < 2 at this; omega⟩) := by
  rw [Memref.IsWhole.readAt_unread]
  refine congrArg x0 (funext fun a => Fin.ext ?_)
  have e := k0_off1_eq i r
  fin_cases a
  · show (k0_off1 i (BitVec.ofNat 32 r.val)) 0 + 0 * 1 = (i 0).val
    rw [e]; rfl
  · show (k0_off1 i (BitVec.ofNat 32 r.val)) 1 + 0 * 1 = 8 * (i 1).val + r.val
    rw [e]; rfl

/-- The read of the keys' scale. -/
theorem ks_read : (kernelRun0_A.sl.r_10 (F := Ideal) c i arg3 harg3 x1) =
      x1 (ix2 ⟨(i 0).val, (i 0).isLt⟩ ⟨(i 1).val, (i 1).isLt⟩) := by
  unfold kernelRun0_A.sl.r_10
  rw [Memref.IsWhole.readAt_unread]
  refine congrArg x1 (funext fun a => Fin.ext ?_)
  have e := k0_off2_eq i
  fin_cases a
  · show (k0_off2 i) 0 + 0 * 1 = (i 0).val
    rw [e]; rfl
  · show (k0_off2 i) 1 + 0 * 1 = (i 1).val
    rw [e]; rfl

/-- The scale of the scores at a lane. -/
theorem scale_apply (l : Fin 256) : (kernelRun0_A.sl.r_11 (F := Ideal) c i arg2 harg2 arg3 harg3 x0 x1) (ix2 0 l) =
    ((x0 (ix2 ⟨(i 0).val, (i 0).isLt⟩ ⟨8 * (i 1).val + l.val % 8, by have := (i 1).isLt; change (i 1).val < 2 at this; omega⟩) *
      x1 (ix2 ⟨(i 0).val, (i 0).isLt⟩ ⟨(i 1).val, (i 1).isLt⟩)) * (FloatOps.ofBits FTy.f32 1035273459#32 : Ideal .f32)) * (L : EReal) := by
  have hl := lane_head l
  have hk := ks_read (c := c) (i := i) (arg3 := arg3) (harg3 := harg3) (x1 := x1)
  have key : ∀ a : EReal, select (cmpi CmpIPredicate.eq kernelRun0_A.sl.v161 kernelRun0_A.sl.v226)
            (broadcast S1x256 ((kernelRun0_A.sl.r_9 (F := Ideal) c i arg2 harg2 x0))) ((kernelRun0_A.sl.v225 (F := Ideal) c i arg2 harg2 x0)) (ix2 0 l) = a → (kernelRun0_A.sl.r_11 (F := Ideal) c i arg2 harg2 arg3 harg3 x0 x1) (ix2 0 l) =
    ((a *
      x1 (ix2 ⟨(i 0).val, (i 0).isLt⟩ ⟨(i 1).val, (i 1).isLt⟩)) * (FloatOps.ofBits FTy.f32 1035273459#32 : Ideal .f32)) * (L : EReal) := by
    rintro a rfl
    rw [← hk, ← log2e_val]
    rfl
  apply key
  unfold kernelRun0_A.sl.v225 kernelRun0_A.sl.v216 kernelRun0_A.sl.v207 kernelRun0_A.sl.v198
    kernelRun0_A.sl.v189 kernelRun0_A.sl.v180 kernelRun0_A.sl.v171
  have hc : ∀ (n : BitVec 32) (a b : FVec Ideal S1x256 .f32),
      select (cmpi CmpIPredicate.eq kernelRun0_A.sl.v161 (broadcast S1x256 n)) a b (ix2 0 l) =
        if BitVec.ofNat 32 (l.val % 8) = n then a (ix2 0 l) else b (ix2 0 l) := by
    intro n a b
    rw [← hl]
    show Scalar.select (IntOp.cmpi CmpIPredicate.eq (kernelRun0_A.sl.v161 (ix2 0 l)) n) (a (ix2 0 l)) (b (ix2 0 l)) = _
    generalize kernelRun0_A.sl.v161 (ix2 0 l) = w
    by_cases h : w = n
    · rw [if_pos h, h]; simp [Scalar.select, IntOp.cmpi]
    · rw [if_neg h]
      have e : (w == n) = false := by simpa using h
      simp [Scalar.select, IntOp.cmpi, e]
  have h8 : l.val % 8 < 8 := Nat.mod_lt _ (by norm_num)
  unfold kernelRun0_A.sl.v226 kernelRun0_A.sl.v217 kernelRun0_A.sl.v208 kernelRun0_A.sl.v199
    kernelRun0_A.sl.v190 kernelRun0_A.sl.v181 kernelRun0_A.sl.v172 kernelRun0_A.sl.v150
  simp only [hc]
  have hn : ∃ n : Fin 8, l.val % 8 = n.val := ⟨⟨_, h8⟩, rfl⟩
  obtain ⟨n, hn⟩ := hn
  have hx : (⟨8 * (i 1).val + l.val % 8, by have := (i 1).isLt; change (i 1).val < 2 at this; omega⟩ : Fin 16) =
      ⟨8 * (i 1).val + n.val, by clear hn; have := n.isLt; have := (i 1).isLt; change (i 1).val < 2 at this; omega⟩ := Fin.ext (by simp only [hn])
  rw [hx, hn]
  clear hx hn hc hl key hk h8
  fin_cases n
  · exact (if_neg (by decide)).trans ((if_neg (by decide)).trans ((if_neg (by decide)).trans ((if_neg (by decide)).trans ((if_neg (by decide)).trans ((if_neg (by decide)).trans ((if_neg (by decide)).trans ((if_pos (by decide)).trans (qs_read 0 _ _))))))))
  · exact (if_neg (by decide)).trans ((if_neg (by decide)).trans ((if_neg (by decide)).trans ((if_neg (by decide)).trans ((if_neg (by decide)).trans ((if_neg (by decide)).trans ((if_pos (by decide)).trans (qs_read 1 _ _)))))))
  · exact (if_neg (by decide)).trans ((if_neg (by decide)).trans ((if_neg (by decide)).trans ((if_neg (by decide)).trans ((if_neg (by decide)).trans ((if_pos (by decide)).trans (qs_read 2 _ _))))))
  · exact (if_neg (by decide)).trans ((if_neg (by decide)).trans ((if_neg (by decide)).trans ((if_neg (by decide)).trans ((if_pos (by decide)).trans (qs_read 3 _ _)))))
  · exact (if_neg (by decide)).trans ((if_neg (by decide)).trans ((if_neg (by decide)).trans ((if_pos (by decide)).trans (qs_read 4 _ _))))
  · exact (if_neg (by decide)).trans ((if_neg (by decide)).trans ((if_pos (by decide)).trans (qs_read 5 _ _)))
  · exact (if_neg (by decide)).trans ((if_pos (by decide)).trans (qs_read 6 _ _))
  · exact (if_pos (by decide)).trans (qs_read 7 _ _)

/-- The values' scale. -/
theorem vs_apply (d : Fin 128) : (kernelRun0_A.sl.r_12 (F := Ideal) c arg7 harg7 x5) (ix2 0 d) = x5 (ix4 0 0 0 d) := by
  have e : ∀ (u : FVec Ideal S1x1x1x128 .f32), k0_pay19 u (ix2 0 d) = u (ix4 0 0 0 d) := by
    intro u
    unfold k0_pay19
    pointwise
  unfold kernelRun0_A.sl.r_12
  rw [e, Memref.IsWhole.readAt_unread]
  refine congrArg x5 (funext fun a => Fin.ext ?_)
  fin_cases a
  · rfl
  · rfl
  · rfl
  · show 0 + 1 * d.val = d.val
    omega

/-- The values, transposed. -/
theorem v_apply (d : Fin 128) (j : Fin 1024) : (kernelRun0_A.sl.v144 (F := Ideal) c arg6 harg6 x4) (ix2 d j) = x4 (ix4 0 0 j d) := by
  have e : ∀ (u : FVec Ideal S1x1x1024x128 .fp8e4m3) h1 h2 h3 h4 ,
      (shapeCast S128x1024 (transpose S128x1024 [1, 0] (extf .bf16 (shapeCast S1024x128 u h1) h2 : FVec Ideal S1024x128 .bf16) h3) h4 : FVec Ideal S128x1024 .bf16) (ix2 d j) = u (ix4 0 0 j d) := by
    intro u h1 h2 h3 h4
    pointwise
  unfold kernelRun0_A.sl.v144 kernelRun0_A.sl.v141 kernelRun0_A.sl.v140 kernelRun0_A.sl.v139
  refine (e _ _ _ _ _).trans ?_
  rw [Memref.IsWhole.readAt_unread]
  refine congrArg x4 (funext fun a => Fin.ext ?_)
  fin_cases a
  · rfl
  · rfl
  · show 0 + 1 * j.val = j.val
    omega
  · show 0 + 1 * d.val = d.val
    omega

end Cert.Fox

end
-- ==== Proof.Words.lean ====
module

public import proofs.«01_k».proof.Proof.Word

@[expose] public section

set_option maxRecDepth 16384

/-! # The word array after each tile

`word_t`: what tile `t` leaves in the word array is its output block, scaled and packed. -/

noncomputable section

namespace Cert.Fox

open Idealize.ShloMosaic Idealize.ShloMosaic.TcCoe Cert.KernelIdeal Cert.KernelIdeal.Gen

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32} {x : In}

theorem word_0 (H : Base c i arg2 harg2 arg3 harg3 arg6 harg6 arg7 harg7 arg8 harg8 x0 x1 x2 x3 x4 x5 x6 x) : ∃ O rest, OutOk x 0 (by norm_num) O ∧ (kernelRun0_A.sl.HS2_1 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask0 x 32 0 _ _ _ _ _ _ _ causal (fun j d => (key_read _ harg5 x3 32 (by norm_num) _ _ j d).trans (H.k _ _)) (fun i d => (query_read _ harg4 x2 0 (by norm_num) _ _ _ i d).trans (H.q _ _ _)) H.s (fun j l => (bias_read _ _ _ _ 32 (by norm_num) _ j l).trans (H.b _ _))) 96 128 rfl (by norm_num) _ _ _ _ _ _ _ _ _ _ _ _ _ (fun d j => (vt_read _ _ _ _ 128 (by norm_num) _ d j).trans (H.v _ _))

theorem word_1 (H : Base c i arg2 harg2 arg3 harg3 arg6 harg6 arg7 harg7 arg8 harg8 x0 x1 x2 x3 x4 x5 x6 x) : ∃ O rest, OutOk x 32 (by norm_num) O ∧ (kernelRun0_A.sl.HS2_2 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 64 32 rfl (by norm_num) _ _ _ _ _ _ _ _ _ _ causal (fun j d => (key_read _ harg5 x3 64 (by norm_num) _ _ j d).trans (H.k _ _)) (fun i d => (query_read _ harg4 x2 32 (by norm_num) _ _ _ i d).trans (H.q _ _ _)) H.s (fun j l => (bias_read _ _ _ _ 64 (by norm_num) _ j l).trans (H.b _ _))) 64 128 rfl (by norm_num) _ _ _ _ _ _ _ _ _ _ _ _ _ (fun d j => (vt_read _ _ _ _ 128 (by norm_num) _ d j).trans (H.v _ _))

theorem word_2 (H : Base c i arg2 harg2 arg3 harg3 arg6 harg6 arg7 harg7 arg8 harg8 x0 x1 x2 x3 x4 x5 x6 x) : ∃ O rest, OutOk x 64 (by norm_num) O ∧ (kernelRun0_A.sl.HS2_3 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 96 64 rfl (by norm_num) _ _ _ _ _ _ _ _ _ _ causal (fun j d => (key_read _ harg5 x3 96 (by norm_num) _ _ j d).trans (H.k _ _)) (fun i d => (query_read _ harg4 x2 64 (by norm_num) _ _ _ i d).trans (H.q _ _ _)) H.s (fun j l => (bias_read _ _ _ _ 96 (by norm_num) _ j l).trans (H.b _ _))) 32 128 rfl (by norm_num) _ _ _ _ _ _ _ _ _ _ _ _ _ (fun d j => (vt_read _ _ _ _ 128 (by norm_num) _ d j).trans (H.v _ _))

theorem word_3 (H : Base c i arg2 harg2 arg3 harg3 arg6 harg6 arg7 harg7 arg8 harg8 x0 x1 x2 x3 x4 x5 x6 x) : ∃ O rest, OutOk x 96 (by norm_num) O ∧ (kernelRun0_A.sl.HS2_4 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 128 96 rfl (by norm_num) _ _ _ _ _ _ _ _ _ _ causal (fun j d => (key_read _ harg5 x3 128 (by norm_num) _ _ j d).trans (H.k _ _)) (fun i d => (query_read _ harg4 x2 96 (by norm_num) _ _ _ i d).trans (H.q _ _ _)) H.s (fun j l => (bias_read _ _ _ _ 128 (by norm_num) _ j l).trans (H.b _ _))) _ _ _ _ _ _ _ _ _ _ _ _ (fun d j => (vt_read _ _ _ _ 128 (by norm_num) _ d j).trans (H.v _ _))

theorem word_4 (H : Base c i arg2 harg2 arg3 harg3 arg6 harg6 arg7 harg7 arg8 harg8 x0 x1 x2 x3 x4 x5 x6 x) : ∃ O rest, OutOk x 128 (by norm_num) O ∧ (kernelRun0_A.sl.HS2_5 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 160 128 rfl (by norm_num) _ _ _ _ _ _ _ _ _ _ causal (fun j d => (key_read _ harg5 x3 160 (by norm_num) _ _ j d).trans (H.k _ _)) (fun i d => (query_read _ harg4 x2 128 (by norm_num) _ _ _ i d).trans (H.q _ _ _)) H.s (fun j l => (bias_read _ _ _ _ 160 (by norm_num) _ j l).trans (H.b _ _))) 96 256 rfl (by norm_num) _ _ _ _ _ _ _ _ _ _ _ _ _ (fun d j => (vt_read _ _ _ _ 256 (by norm_num) _ d j).trans (H.v _ _))

theorem word_5 (H : Base c i arg2 harg2 arg3 harg3 arg6 harg6 arg7 harg7 arg8 harg8 x0 x1 x2 x3 x4 x5 x6 x) : ∃ O rest, OutOk x 160 (by norm_num) O ∧ (kernelRun0_A.sl.HS2_6 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 192 160 rfl (by norm_num) _ _ _ _ _ _ _ _ _ _ causal (fun j d => (key_read _ harg5 x3 192 (by norm_num) _ _ j d).trans (H.k _ _)) (fun i d => (query_read _ harg4 x2 160 (by norm_num) _ _ _ i d).trans (H.q _ _ _)) H.s (fun j l => (bias_read _ _ _ _ 192 (by norm_num) _ j l).trans (H.b _ _))) 64 256 rfl (by norm_num) _ _ _ _ _ _ _ _ _ _ _ _ _ (fun d j => (vt_read _ _ _ _ 256 (by norm_num) _ d j).trans (H.v _ _))

theorem word_6 (H : Base c i arg2 harg2 arg3 harg3 arg6 harg6 arg7 harg7 arg8 harg8 x0 x1 x2 x3 x4 x5 x6 x) : ∃ O rest, OutOk x 192 (by norm_num) O ∧ (kernelRun0_A.sl.HS2_7 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 224 192 rfl (by norm_num) _ _ _ _ _ _ _ _ _ _ causal (fun j d => (key_read _ harg5 x3 224 (by norm_num) _ _ j d).trans (H.k _ _)) (fun i d => (query_read _ harg4 x2 192 (by norm_num) _ _ _ i d).trans (H.q _ _ _)) H.s (fun j l => (bias_read _ _ _ _ 224 (by norm_num) _ j l).trans (H.b _ _))) 32 256 rfl (by norm_num) _ _ _ _ _ _ _ _ _ _ _ _ _ (fun d j => (vt_read _ _ _ _ 256 (by norm_num) _ d j).trans (H.v _ _))

theorem word_7 (H : Base c i arg2 harg2 arg3 harg3 arg6 harg6 arg7 harg7 arg8 harg8 x0 x1 x2 x3 x4 x5 x6 x) : ∃ O rest, OutOk x 224 (by norm_num) O ∧ (kernelRun0_A.sl.HS2_8 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 256 224 rfl (by norm_num) _ _ _ _ _ _ _ _ _ _ causal (fun j d => (key_read _ harg5 x3 256 (by norm_num) _ _ j d).trans (H.k _ _)) (fun i d => (query_read _ harg4 x2 224 (by norm_num) _ _ _ i d).trans (H.q _ _ _)) H.s (fun j l => (bias_read _ _ _ _ 256 (by norm_num) _ j l).trans (H.b _ _))) _ _ _ _ _ _ _ _ _ _ _ _ (fun d j => (vt_read _ _ _ _ 256 (by norm_num) _ d j).trans (H.v _ _))

theorem word_8 (H : Base c i arg2 harg2 arg3 harg3 arg6 harg6 arg7 harg7 arg8 harg8 x0 x1 x2 x3 x4 x5 x6 x) : ∃ O rest, OutOk x 256 (by norm_num) O ∧ (kernelRun0_A.sl.HS2_9 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 288 256 rfl (by norm_num) _ _ _ _ _ _ _ _ _ _ causal (fun j d => (key_read _ harg5 x3 288 (by norm_num) _ _ j d).trans (H.k _ _)) (fun i d => (query_read _ harg4 x2 256 (by norm_num) _ _ _ i d).trans (H.q _ _ _)) H.s (fun j l => (bias_read _ _ _ _ 288 (by norm_num) _ j l).trans (H.b _ _))) 96 384 rfl (by norm_num) _ _ _ _ _ _ _ _ _ _ _ _ _ (fun d j => (vt_read _ _ _ _ 384 (by norm_num) _ d j).trans (H.v _ _))

theorem word_9 (H : Base c i arg2 harg2 arg3 harg3 arg6 harg6 arg7 harg7 arg8 harg8 x0 x1 x2 x3 x4 x5 x6 x) : ∃ O rest, OutOk x 288 (by norm_num) O ∧ (kernelRun0_A.sl.HS2_10 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 320 288 rfl (by norm_num) _ _ _ _ _ _ _ _ _ _ causal (fun j d => (key_read _ harg5 x3 320 (by norm_num) _ _ j d).trans (H.k _ _)) (fun i d => (query_read _ harg4 x2 288 (by norm_num) _ _ _ i d).trans (H.q _ _ _)) H.s (fun j l => (bias_read _ _ _ _ 320 (by norm_num) _ j l).trans (H.b _ _))) 64 384 rfl (by norm_num) _ _ _ _ _ _ _ _ _ _ _ _ _ (fun d j => (vt_read _ _ _ _ 384 (by norm_num) _ d j).trans (H.v _ _))

theorem word_10 (H : Base c i arg2 harg2 arg3 harg3 arg6 harg6 arg7 harg7 arg8 harg8 x0 x1 x2 x3 x4 x5 x6 x) : ∃ O rest, OutOk x 320 (by norm_num) O ∧ (kernelRun0_A.sl.HS2_11 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 352 320 rfl (by norm_num) _ _ _ _ _ _ _ _ _ _ causal (fun j d => (key_read _ harg5 x3 352 (by norm_num) _ _ j d).trans (H.k _ _)) (fun i d => (query_read _ harg4 x2 320 (by norm_num) _ _ _ i d).trans (H.q _ _ _)) H.s (fun j l => (bias_read _ _ _ _ 352 (by norm_num) _ j l).trans (H.b _ _))) 32 384 rfl (by norm_num) _ _ _ _ _ _ _ _ _ _ _ _ _ (fun d j => (vt_read _ _ _ _ 384 (by norm_num) _ d j).trans (H.v _ _))

theorem word_11 (H : Base c i arg2 harg2 arg3 harg3 arg6 harg6 arg7 harg7 arg8 harg8 x0 x1 x2 x3 x4 x5 x6 x) : ∃ O rest, OutOk x 352 (by norm_num) O ∧ (kernelRun0_A.sl.HS2_12 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨outp 384 broadcasts_S1x256_S128x256 (kernelRun0_A.sl.v1068 (F := Ideal) c arg6 harg6 arg12 x4) (truncf .bf16 (k0_pay243 (F := Ideal) (kernelRun0_A.sl.r_11 (F := Ideal) c i arg2 harg2 arg3 harg3 x0 x1) k0_pay20 (kernelRun0_A.sl.v1335 (F := Ideal) c arg4 harg4 x2) (View.readAt (Elt Ideal) arg5.view (Rect.unit (s := S1x1x1024x128) ![0, 0, 0, 0] S1x1x384x128.size inb_S1x1x1024x128_S1x1x384x128_0_0_0_0).toLoadRect (harg5.unread x3)) (kernelRun0_A.sl.v1339 (F := Ideal) c arg8 harg8 arg11 x6)) bitsLt_bf16_f32) (k0_pay244 (F := Ideal) (kernelRun0_A.sl.r_11 (F := Ideal) c i arg2 harg2 arg3 harg3 x0 x1) k0_pay20 (kernelRun0_A.sl.v1335 (F := Ideal) c arg4 harg4 x2) (View.readAt (Elt Ideal) arg5.view (Rect.unit (s := S1x1x1024x128) ![0, 0, 0, 0] S1x1x384x128.size inb_S1x1x1024x128_S1x1x384x128_0_0_0_0).toLoadRect (harg5.unread x3)) (kernelRun0_A.sl.v1339 (F := Ideal) c arg8 harg8 arg11 x6)), _, ?_, rfl⟩
  exact outOk_full (logOk_mask x 384 352 rfl (by norm_num) _ _ _ _ _ _ _ _ _ _ causal (fun j d => (key_read _ harg5 x3 384 (by norm_num) _ _ j d).trans (H.k _ _)) (fun i d => (query_read _ harg4 x2 352 (by norm_num) _ _ _ i d).trans (H.q _ _ _)) H.s (fun j l => (bias_read _ _ _ _ 384 (by norm_num) _ j l).trans (H.b _ _))) _ _ _ _ _ _ _ _ _ _ _ _ (fun d j => (vt_read _ _ _ _ 384 (by norm_num) _ d j).trans (H.v _ _))

theorem word_12 (H : Base c i arg2 harg2 arg3 harg3 arg6 harg6 arg7 harg7 arg8 harg8 x0 x1 x2 x3 x4 x5 x6 x) : ∃ O rest, OutOk x 384 (by norm_num) O ∧ (kernelRun0_A.sl.HS2_13 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 416 384 rfl (by norm_num) _ _ _ _ _ _ _ _ _ _ causal (fun j d => (key_read _ harg5 x3 416 (by norm_num) _ _ j d).trans (H.k _ _)) (fun i d => (query_read _ harg4 x2 384 (by norm_num) _ _ _ i d).trans (H.q _ _ _)) H.s (fun j l => (bias_read _ _ _ _ 416 (by norm_num) _ j l).trans (H.b _ _))) 96 512 rfl (by norm_num) _ _ _ _ _ _ _ _ _ _ _ _ _ (fun d j => (vt_read _ _ _ _ 512 (by norm_num) _ d j).trans (H.v _ _))

theorem word_13 (H : Base c i arg2 harg2 arg3 harg3 arg6 harg6 arg7 harg7 arg8 harg8 x0 x1 x2 x3 x4 x5 x6 x) : ∃ O rest, OutOk x 416 (by norm_num) O ∧ (kernelRun0_A.sl.HS2_14 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 448 416 rfl (by norm_num) _ _ _ _ _ _ _ _ _ _ causal (fun j d => (key_read _ harg5 x3 448 (by norm_num) _ _ j d).trans (H.k _ _)) (fun i d => (query_read _ harg4 x2 416 (by norm_num) _ _ _ i d).trans (H.q _ _ _)) H.s (fun j l => (bias_read _ _ _ _ 448 (by norm_num) _ j l).trans (H.b _ _))) 64 512 rfl (by norm_num) _ _ _ _ _ _ _ _ _ _ _ _ _ (fun d j => (vt_read _ _ _ _ 512 (by norm_num) _ d j).trans (H.v _ _))

theorem word_14 (H : Base c i arg2 harg2 arg3 harg3 arg6 harg6 arg7 harg7 arg8 harg8 x0 x1 x2 x3 x4 x5 x6 x) : ∃ O rest, OutOk x 448 (by norm_num) O ∧ (kernelRun0_A.sl.HS2_15 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 480 448 rfl (by norm_num) _ _ _ _ _ _ _ _ _ _ causal (fun j d => (key_read _ harg5 x3 480 (by norm_num) _ _ j d).trans (H.k _ _)) (fun i d => (query_read _ harg4 x2 448 (by norm_num) _ _ _ i d).trans (H.q _ _ _)) H.s (fun j l => (bias_read _ _ _ _ 480 (by norm_num) _ j l).trans (H.b _ _))) 32 512 rfl (by norm_num) _ _ _ _ _ _ _ _ _ _ _ _ _ (fun d j => (vt_read _ _ _ _ 512 (by norm_num) _ d j).trans (H.v _ _))

theorem word_15 (H : Base c i arg2 harg2 arg3 harg3 arg6 harg6 arg7 harg7 arg8 harg8 x0 x1 x2 x3 x4 x5 x6 x) : ∃ O rest, OutOk x 480 (by norm_num) O ∧ (kernelRun0_A.sl.HS2_16 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 512 480 rfl (by norm_num) _ _ _ _ _ _ _ _ _ _ causal (fun j d => (key_read _ harg5 x3 512 (by norm_num) _ _ j d).trans (H.k _ _)) (fun i d => (query_read _ harg4 x2 480 (by norm_num) _ _ _ i d).trans (H.q _ _ _)) H.s (fun j l => (bias_read _ _ _ _ 512 (by norm_num) _ j l).trans (H.b _ _))) _ _ _ _ _ _ _ _ _ _ _ _ (fun d j => (vt_read _ _ _ _ 512 (by norm_num) _ d j).trans (H.v _ _))

theorem word_16 (H : Base c i arg2 harg2 arg3 harg3 arg6 harg6 arg7 harg7 arg8 harg8 x0 x1 x2 x3 x4 x5 x6 x) : ∃ O rest, OutOk x 512 (by norm_num) O ∧ (kernelRun0_A.sl.HS2_17 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 544 512 rfl (by norm_num) _ _ _ _ _ _ _ _ _ _ causal (fun j d => (key_read _ harg5 x3 544 (by norm_num) _ _ j d).trans (H.k _ _)) (fun i d => (query_read _ harg4 x2 512 (by norm_num) _ _ _ i d).trans (H.q _ _ _)) H.s (fun j l => (bias_read _ _ _ _ 544 (by norm_num) _ j l).trans (H.b _ _))) 96 640 rfl (by norm_num) _ _ _ _ _ _ _ _ _ _ _ _ _ (fun d j => (vt_read _ _ _ _ 640 (by norm_num) _ d j).trans (H.v _ _))

theorem word_17 (H : Base c i arg2 harg2 arg3 harg3 arg6 harg6 arg7 harg7 arg8 harg8 x0 x1 x2 x3 x4 x5 x6 x) : ∃ O rest, OutOk x 544 (by norm_num) O ∧ (kernelRun0_A.sl.HS2_18 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 576 544 rfl (by norm_num) _ _ _ _ _ _ _ _ _ _ causal (fun j d => (key_read _ harg5 x3 576 (by norm_num) _ _ j d).trans (H.k _ _)) (fun i d => (query_read _ harg4 x2 544 (by norm_num) _ _ _ i d).trans (H.q _ _ _)) H.s (fun j l => (bias_read _ _ _ _ 576 (by norm_num) _ j l).trans (H.b _ _))) 64 640 rfl (by norm_num) _ _ _ _ _ _ _ _ _ _ _ _ _ (fun d j => (vt_read _ _ _ _ 640 (by norm_num) _ d j).trans (H.v _ _))

theorem word_18 (H : Base c i arg2 harg2 arg3 harg3 arg6 harg6 arg7 harg7 arg8 harg8 x0 x1 x2 x3 x4 x5 x6 x) : ∃ O rest, OutOk x 576 (by norm_num) O ∧ (kernelRun0_A.sl.HS2_19 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 608 576 rfl (by norm_num) _ _ _ _ _ _ _ _ _ _ causal (fun j d => (key_read _ harg5 x3 608 (by norm_num) _ _ j d).trans (H.k _ _)) (fun i d => (query_read _ harg4 x2 576 (by norm_num) _ _ _ i d).trans (H.q _ _ _)) H.s (fun j l => (bias_read _ _ _ _ 608 (by norm_num) _ j l).trans (H.b _ _))) 32 640 rfl (by norm_num) _ _ _ _ _ _ _ _ _ _ _ _ _ (fun d j => (vt_read _ _ _ _ 640 (by norm_num) _ d j).trans (H.v _ _))

theorem word_19 (H : Base c i arg2 harg2 arg3 harg3 arg6 harg6 arg7 harg7 arg8 harg8 x0 x1 x2 x3 x4 x5 x6 x) : ∃ O rest, OutOk x 608 (by norm_num) O ∧ (kernelRun0_A.sl.HS2_20 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 640 608 rfl (by norm_num) _ _ _ _ _ _ _ _ _ _ causal (fun j d => (key_read _ harg5 x3 640 (by norm_num) _ _ j d).trans (H.k _ _)) (fun i d => (query_read _ harg4 x2 608 (by norm_num) _ _ _ i d).trans (H.q _ _ _)) H.s (fun j l => (bias_read _ _ _ _ 640 (by norm_num) _ j l).trans (H.b _ _))) _ _ _ _ _ _ _ _ _ _ _ _ (fun d j => (vt_read _ _ _ _ 640 (by norm_num) _ d j).trans (H.v _ _))

theorem word_20 (H : Base c i arg2 harg2 arg3 harg3 arg6 harg6 arg7 harg7 arg8 harg8 x0 x1 x2 x3 x4 x5 x6 x) : ∃ O rest, OutOk x 640 (by norm_num) O ∧ (kernelRun0_A.sl.HS2_21 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 672 640 rfl (by norm_num) _ _ _ _ _ _ _ _ _ _ causal (fun j d => (key_read _ harg5 x3 672 (by norm_num) _ _ j d).trans (H.k _ _)) (fun i d => (query_read _ harg4 x2 640 (by norm_num) _ _ _ i d).trans (H.q _ _ _)) H.s (fun j l => (bias_read _ _ _ _ 672 (by norm_num) _ j l).trans (H.b _ _))) 96 768 rfl (by norm_num) _ _ _ _ _ _ _ _ _ _ _ _ _ (fun d j => (vt_read _ _ _ _ 768 (by norm_num) _ d j).trans (H.v _ _))

theorem word_21 (H : Base c i arg2 harg2 arg3 harg3 arg6 harg6 arg7 harg7 arg8 harg8 x0 x1 x2 x3 x4 x5 x6 x) : ∃ O rest, OutOk x 672 (by norm_num) O ∧ (kernelRun0_A.sl.HS2_22 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 704 672 rfl (by norm_num) _ _ _ _ _ _ _ _ _ _ causal (fun j d => (key_read _ harg5 x3 704 (by norm_num) _ _ j d).trans (H.k _ _)) (fun i d => (query_read _ harg4 x2 672 (by norm_num) _ _ _ i d).trans (H.q _ _ _)) H.s (fun j l => (bias_read _ _ _ _ 704 (by norm_num) _ j l).trans (H.b _ _))) 64 768 rfl (by norm_num) _ _ _ _ _ _ _ _ _ _ _ _ _ (fun d j => (vt_read _ _ _ _ 768 (by norm_num) _ d j).trans (H.v _ _))

theorem word_22 (H : Base c i arg2 harg2 arg3 harg3 arg6 harg6 arg7 harg7 arg8 harg8 x0 x1 x2 x3 x4 x5 x6 x) : ∃ O rest, OutOk x 704 (by norm_num) O ∧ (kernelRun0_A.sl.HS2_23 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 736 704 rfl (by norm_num) _ _ _ _ _ _ _ _ _ _ causal (fun j d => (key_read _ harg5 x3 736 (by norm_num) _ _ j d).trans (H.k _ _)) (fun i d => (query_read _ harg4 x2 704 (by norm_num) _ _ _ i d).trans (H.q _ _ _)) H.s (fun j l => (bias_read _ _ _ _ 736 (by norm_num) _ j l).trans (H.b _ _))) 32 768 rfl (by norm_num) _ _ _ _ _ _ _ _ _ _ _ _ _ (fun d j => (vt_read _ _ _ _ 768 (by norm_num) _ d j).trans (H.v _ _))

theorem word_23 (H : Base c i arg2 harg2 arg3 harg3 arg6 harg6 arg7 harg7 arg8 harg8 x0 x1 x2 x3 x4 x5 x6 x) : ∃ O rest, OutOk x 736 (by norm_num) O ∧ (kernelRun0_A.sl.HS2_24 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 768 736 rfl (by norm_num) _ _ _ _ _ _ _ _ _ _ causal (fun j d => (key_read _ harg5 x3 768 (by norm_num) _ _ j d).trans (H.k _ _)) (fun i d => (query_read _ harg4 x2 736 (by norm_num) _ _ _ i d).trans (H.q _ _ _)) H.s (fun j l => (bias_read _ _ _ _ 768 (by norm_num) _ j l).trans (H.b _ _))) _ _ _ _ _ _ _ _ _ _ _ _ (fun d j => (vt_read _ _ _ _ 768 (by norm_num) _ d j).trans (H.v _ _))

theorem word_24 (H : Base c i arg2 harg2 arg3 harg3 arg6 harg6 arg7 harg7 arg8 harg8 x0 x1 x2 x3 x4 x5 x6 x) : ∃ O rest, OutOk x 768 (by norm_num) O ∧ (kernelRun0_A.sl.HS2_25 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 800 768 rfl (by norm_num) _ _ _ _ _ _ _ _ _ _ causal (fun j d => (key_read _ harg5 x3 800 (by norm_num) _ _ j d).trans (H.k _ _)) (fun i d => (query_read _ harg4 x2 768 (by norm_num) _ _ _ i d).trans (H.q _ _ _)) H.s (fun j l => (bias_read _ _ _ _ 800 (by norm_num) _ j l).trans (H.b _ _))) 96 896 rfl (by norm_num) _ _ _ _ _ _ _ _ _ _ _ _ _ (fun d j => (vt_read _ _ _ _ 896 (by norm_num) _ d j).trans (H.v _ _))

theorem word_25 (H : Base c i arg2 harg2 arg3 harg3 arg6 harg6 arg7 harg7 arg8 harg8 x0 x1 x2 x3 x4 x5 x6 x) : ∃ O rest, OutOk x 800 (by norm_num) O ∧ (kernelRun0_A.sl.HS2_26 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 832 800 rfl (by norm_num) _ _ _ _ _ _ _ _ _ _ causal (fun j d => (key_read _ harg5 x3 832 (by norm_num) _ _ j d).trans (H.k _ _)) (fun i d => (query_read _ harg4 x2 800 (by norm_num) _ _ _ i d).trans (H.q _ _ _)) H.s (fun j l => (bias_read _ _ _ _ 832 (by norm_num) _ j l).trans (H.b _ _))) 64 896 rfl (by norm_num) _ _ _ _ _ _ _ _ _ _ _ _ _ (fun d j => (vt_read _ _ _ _ 896 (by norm_num) _ d j).trans (H.v _ _))

theorem word_26 (H : Base c i arg2 harg2 arg3 harg3 arg6 harg6 arg7 harg7 arg8 harg8 x0 x1 x2 x3 x4 x5 x6 x) : ∃ O rest, OutOk x 832 (by norm_num) O ∧ (kernelRun0_A.sl.HS2_27 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 864 832 rfl (by norm_num) _ _ _ _ _ _ _ _ _ _ causal (fun j d => (key_read _ harg5 x3 864 (by norm_num) _ _ j d).trans (H.k _ _)) (fun i d => (query_read _ harg4 x2 832 (by norm_num) _ _ _ i d).trans (H.q _ _ _)) H.s (fun j l => (bias_read _ _ _ _ 864 (by norm_num) _ j l).trans (H.b _ _))) 32 896 rfl (by norm_num) _ _ _ _ _ _ _ _ _ _ _ _ _ (fun d j => (vt_read _ _ _ _ 896 (by norm_num) _ d j).trans (H.v _ _))

theorem word_27 (H : Base c i arg2 harg2 arg3 harg3 arg6 harg6 arg7 harg7 arg8 harg8 x0 x1 x2 x3 x4 x5 x6 x) : ∃ O rest, OutOk x 864 (by norm_num) O ∧ (kernelRun0_A.sl.HS2_28 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 896 864 rfl (by norm_num) _ _ _ _ _ _ _ _ _ _ causal (fun j d => (key_read _ harg5 x3 896 (by norm_num) _ _ j d).trans (H.k _ _)) (fun i d => (query_read _ harg4 x2 864 (by norm_num) _ _ _ i d).trans (H.q _ _ _)) H.s (fun j l => (bias_read _ _ _ _ 896 (by norm_num) _ j l).trans (H.b _ _))) _ _ _ _ _ _ _ _ _ _ _ _ (fun d j => (vt_read _ _ _ _ 896 (by norm_num) _ d j).trans (H.v _ _))

theorem word_28 (H : Base c i arg2 harg2 arg3 harg3 arg6 harg6 arg7 harg7 arg8 harg8 x0 x1 x2 x3 x4 x5 x6 x) : ∃ O rest, OutOk x 896 (by norm_num) O ∧ (kernelRun0_A.sl.HS2_29 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 928 896 rfl (by norm_num) _ _ _ _ _ _ _ _ _ _ causal (fun j d => (key_read _ harg5 x3 928 (by norm_num) _ _ j d).trans (H.k _ _)) (fun i d => (query_read _ harg4 x2 896 (by norm_num) _ _ _ i d).trans (H.q _ _ _)) H.s (fun j l => (bias_read _ _ _ _ 928 (by norm_num) _ j l).trans (H.b _ _))) 96 1024 rfl (by norm_num) _ _ _ _ _ _ _ _ _ _ _ _ _ (fun d j => (vt_read _ _ _ _ 1024 (by norm_num) _ d j).trans (H.v _ _))

theorem word_29 (H : Base c i arg2 harg2 arg3 harg3 arg6 harg6 arg7 harg7 arg8 harg8 x0 x1 x2 x3 x4 x5 x6 x) : ∃ O rest, OutOk x 928 (by norm_num) O ∧ (kernelRun0_A.sl.HS2_30 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 960 928 rfl (by norm_num) _ _ _ _ _ _ _ _ _ _ causal (fun j d => (key_read _ harg5 x3 960 (by norm_num) _ _ j d).trans (H.k _ _)) (fun i d => (query_read _ harg4 x2 928 (by norm_num) _ _ _ i d).trans (H.q _ _ _)) H.s (fun j l => (bias_read _ _ _ _ 960 (by norm_num) _ j l).trans (H.b _ _))) 64 1024 rfl (by norm_num) _ _ _ _ _ _ _ _ _ _ _ _ _ (fun d j => (vt_read _ _ _ _ 1024 (by norm_num) _ d j).trans (H.v _ _))

theorem word_30 (H : Base c i arg2 harg2 arg3 harg3 arg6 harg6 arg7 harg7 arg8 harg8 x0 x1 x2 x3 x4 x5 x6 x) : ∃ O rest, OutOk x 960 (by norm_num) O ∧ (kernelRun0_A.sl.HS2_31 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_pad (logOk_mask x 992 960 rfl (by norm_num) _ _ _ _ _ _ _ _ _ _ causal (fun j d => (key_read _ harg5 x3 992 (by norm_num) _ _ j d).trans (H.k _ _)) (fun i d => (query_read _ harg4 x2 960 (by norm_num) _ _ _ i d).trans (H.q _ _ _)) H.s (fun j l => (bias_read _ _ _ _ 992 (by norm_num) _ j l).trans (H.b _ _))) 32 1024 rfl (by norm_num) _ _ _ _ _ _ _ _ _ _ _ _ _ (fun d j => (vt_read _ _ _ _ 1024 (by norm_num) _ d j).trans (H.v _ _))

theorem word_31 (H : Base c i arg2 harg2 arg3 harg3 arg6 harg6 arg7 harg7 arg8 harg8 x0 x1 x2 x3 x4 x5 x6 x) : ∃ O rest, OutOk x 992 (by norm_num) O ∧ (kernelRun0_A.sl.HS2_32 (F := Ideal) c i arg2 harg2 arg3 harg3 arg4 harg4 arg5 harg5 arg6 harg6 arg7 harg7 arg8 harg8 arg11 arg12 x0 x1 x2 x3 x4 x5 x6) = ⟨Rect.unit ![0, 0, 0] S128x2x128.size inb_S128x2x128_S128x2x128_0_0_0, k0_pay51 (kernelRun0_A.sl.r_12 (F := Ideal) c arg7 harg7 x5) O⟩ :: rest := by
  refine ⟨_, _, ?_, rfl⟩
  exact outOk_full (logOk_mask x 1024 992 rfl (by norm_num) _ _ _ _ _ _ _ _ _ _ causal (fun j d => (key_read _ harg5 x3 1024 (by norm_num) _ _ j d).trans (H.k _ _)) (fun i d => (query_read _ harg4 x2 992 (by norm_num) _ _ _ i d).trans (H.q _ _ _)) H.s (fun j l => (bias_read _ _ _ _ 1024 (by norm_num) _ j l).trans (H.b _ _))) _ _ _ _ _ _ _ _ _ _ _ _ (fun d j => (vt_read _ _ _ _ 1024 (by norm_num) _ d j).trans (H.v _ _))

end Cert.Fox

end
-- ==== Proof.OBlock.lean ====
module

public import proofs.«01_k».proof.Proof.Words

@[expose] public section

set_option maxRecDepth 16384

/-! # The staged output block -/

noncomputable section

namespace Cert.Fox

open Idealize.ShloMosaic Idealize.ShloMosaic.TcCoe Cert.KernelIdeal Cert.KernelIdeal.Gen

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32} {x : In}

/-- Every stored block of rows holds the output. -/
theorem o_list (H : Base c i arg2 harg2 arg3 harg3 arg6 harg6 arg7 harg7 arg8 harg8 x0 x1 x2 x3 x4 x5 x6 x) : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6).1, ∀ z, p.2 z = oG x (p.1.emb z) := by
  unfold kernelRun0_A
  dsimp only
  refine List.forall_mem_cons.2 ⟨?_, ?_⟩
  · intro z
    dsimp only
    exact o_piece (word_31 H) H.vs 7 (by norm_num) _ rfl _ _ z
  refine List.forall_mem_cons.2 ⟨?_, ?_⟩
  · intro z
    dsimp only
    exact o_piece (word_31 H) H.vs 6 (by norm_num) _ rfl _ _ z
  refine List.forall_mem_cons.2 ⟨?_, ?_⟩
  · intro z
    dsimp only
    exact o_piece (word_31 H) H.vs 5 (by norm_num) _ rfl _ _ z
  refine List.forall_mem_cons.2 ⟨?_, ?_⟩
  · intro z
    dsimp only
    exact o_piece (word_31 H) H.vs 4 (by norm_num) _ rfl _ _ z
  refine List.forall_mem_cons.2 ⟨?_, ?_⟩
  · intro z
    dsimp only
    exact o_piece (word_31 H) H.vs 3 (by norm_num) _ rfl _ _ z
  refine List.forall_mem_cons.2 ⟨?_, ?_⟩
  · intro z
    dsimp only
    exact o_piece (word_31 H) H.vs 2 (by norm_num) _ rfl _ _ z
  refine List.forall_mem_cons.2 ⟨?_, ?_⟩
  · intro z
    dsimp only
    exact o_piece (word_31 H) H.vs 1 (by norm_num) _ rfl _ _ z
  refine List.forall_mem_cons.2 ⟨?_, ?_⟩
  · intro z
    dsimp only
    exact o_piece (word_31 H) H.vs 0 (by norm_num) _ rfl _ _ z
  refine List.forall_mem_cons.2 ⟨?_, ?_⟩
  · intro z
    dsimp only
    exact o_piece (word_30 H) H.vs 7 (by norm_num) _ rfl _ _ z
  refine List.forall_mem_cons.2 ⟨?_, ?_⟩
  · intro z
    dsimp only
    exact o_piece (word_30 H) H.vs 6 (by norm_num) _ rfl _ _ z
  refine List.forall_mem_cons.2 ⟨?_, ?_⟩
  · intro z
    dsimp only
    exact o_piece (word_30 H) H.vs 5 (by norm_num) _ rfl _ _ z
  refine List.forall_mem_cons.2 ⟨?_, ?_⟩
  · intro z
    dsimp only
    exact o_piece (word_30 H) H.vs 4 (by norm_num) _ rfl _ _ z
  refine List.forall_mem_cons.2 ⟨?_, ?_⟩
  · intro z
    dsimp only
    exact o_piece (word_30 H) H.vs 3 (by norm_num) _ rfl _ _ z
  refine List.forall_mem_cons.2 ⟨?_, ?_⟩
  · intro z
    dsimp only
    exact o_piece (word_30 H) H.vs 2 (by norm_num) _ rfl _ _ z
  refine List.forall_mem_cons.2 ⟨?_, ?_⟩
  · intro z
    dsimp only
    exact o_piece (word_30 H) H.vs 1 (by norm_num) _ rfl _ _ z
  refine List.forall_mem_cons.2 ⟨?_, ?_⟩
  · intro z
    dsimp only
    exact o_piece (word_30 H) H.vs 0 (by norm_num) _ rfl _ _ z
  refine List.forall_mem_cons.2 ⟨?_, ?_⟩
  · intro z
    dsimp only
    exact o_piece (word_29 H) H.vs 7 (by norm_num) _ rfl _ _ z
  refine List.forall_mem_cons.2 ⟨?_, ?_⟩
  · intro z
    dsimp only
    exact o_piece (word_29 H) H.vs 6 (by norm_num) _ rfl _ _ z
  refine List.forall_mem_cons.2 ⟨?_, ?_⟩
  · intro z
    dsimp only
    exact o_piece (word_29 H) H.vs 5 (by norm_num) _ rfl _ _ z
  refine List.forall_mem_cons.2 ⟨?_, ?_⟩
  · intro z
    dsimp only
    exact o_piece (word_29 H) H.vs 4 (by norm_num) _ rfl _ _ z
  refine List.forall_mem_cons.2 ⟨?_, ?_⟩
  · intro z
    dsimp only
    exact o_piece (word_29 H) H.vs 3 (by norm_num) _ rfl _ _ z
  refine List.forall_mem_cons.2 ⟨?_, ?_⟩
  · intro z
    dsimp only
    exact o_piece (word_29 H) H.vs 2 (by norm_num) _ rfl _ _ z
  refine List.forall_mem_cons.2 ⟨?_, ?_⟩
  · intro z
    dsimp only
    exact o_piece (word_29 H) H.vs 1 (by norm_num) _ rfl _ _ z
  refine List.forall_mem_cons.2 ⟨?_, ?_⟩
  · intro z
    dsimp only
    exact o_piece (word_29 H) H.vs 0 (by norm_num) _ rfl _ _ z
  refine List.forall_mem_cons.2 ⟨?_, ?_⟩
  · intro z
    dsimp only
    exact o_piece (word_28 H) H.vs 7 (by norm_num) _ rfl _ _ z
  refine List.forall_mem_cons.2 ⟨?_, ?_⟩
  · intro z
    dsimp only
    exact o_piece (word_28 H) H.vs 6 (by norm_num) _ rfl _ _ z
  refine List.forall_mem_cons.2 ⟨?_, ?_⟩
  · intro z
    dsimp only
    exact o_piece (word_28 H) H.vs 5 (by norm_num) _ rfl _ _ z
  refine List.forall_mem_cons.2 ⟨?_, ?_⟩
  · intro z
    dsimp only
    exact o_piece (word_28 H) H.vs 4 (by norm_num) _ rfl _ _ z
  refine List.forall_mem_cons.2 ⟨?_, ?_⟩
  · intro z
    dsimp only
    exact o_piece (word_28 H) H.vs 3 (by norm_num) _ rfl _ _ z
  refine List.forall_mem_cons.2 ⟨?_, ?_⟩
  · intro z
    dsimp only
    exact o_piece (word_28 H) H.vs 2 (by norm_num) _ rfl _ _ z
  refine List.forall_mem_cons.2 ⟨?_, ?_⟩
  · intro z
    dsimp only
    exact o_piece (word_28 H) H.vs 1 (by norm_num) _ rfl _ _ z
  refine List.forall_mem_cons.2 ⟨?_, ?_⟩
  · intro z
    dsimp only
    exact o_piece (word_28 H) H.vs 0 (by norm_num) _ rfl _ _ z
  refine List.forall_mem_cons.2 ⟨?_, ?_⟩
  · intro z
    dsimp only
    exact o_piece (word_27 H) H.vs 7 (by norm_num) _ rfl _ _ z
  refine List.forall_mem_cons.2 ⟨?_, ?_⟩
  · intro z
    dsimp only
    exact o_piece (word_27 H) H.vs 6 (by norm_num) _ rfl _ _ z
  refine List.forall_mem_cons.2 ⟨?_, ?_⟩
  · intro z
    dsimp only
    exact o_piece (word_27 H) H.vs 5 (by norm_num) _ rfl _ _ z
  refine List.forall_mem_cons.2 ⟨?_, ?_⟩
  · intro z
    dsimp only
    exact o_piece (word_27 H) H.vs 4 (by norm_num) _ rfl _ _ z
  refine List.forall_mem_cons.2 ⟨?_, ?_⟩
  · intro z
    dsimp only
    exact o_piece (word_27 H) H.vs 3 (by norm_num) _ rfl _ _ z
  refine List.forall_mem_cons.2 ⟨?_, ?_⟩
  · intro z
    dsimp only
    exact o_piece (word_27 H) H.vs 2 (by norm_num) _ rfl _ _ z
  refine List.forall_mem_cons.2 ⟨?_, ?_⟩
  · intro z
    dsimp only
    exact o_piece (word_27 H) H.vs 1 (by norm_num) _ rfl _ _ z
  refine List.forall_mem_cons.2 ⟨?_, ?_⟩
  · intro z
    dsimp only
    exact o_piece (word_27 H) H.vs 0 (by norm_num) _ rfl _ _ z
  refine List.forall_mem_cons.2 ⟨?_, ?_⟩
  · intro z
    dsimp only
    exact o_piece (word_26 H) H.vs 7 (by norm_num) _ rfl _ _ z
  refine List.forall_mem_cons.2 ⟨?_, ?_⟩
  · intro z
    dsimp only
    exact o_piece (word_26 H) H.vs 6 (by norm_num) _ rfl _ _ z
  refine List.forall_mem_cons.2 ⟨?_, ?_⟩
  · intro z
    dsimp only
    exact o_piece (word_26 H) H.vs 5 (by norm_num) _ rfl _ _ z
  refine List.forall_mem_cons.2 ⟨?_, ?_⟩
  · intro z
    dsimp only
    exact o_piece (word_26 H) H.vs 4 (by norm_num) _ rfl _ _ z
  refine List.forall_mem_cons.2 ⟨?_, ?_⟩
  · intro z
    dsimp only
    exact o_piece (word_26 H) H.vs 3 (by norm_num) _ rfl _ _ z
  refine List.forall_mem_cons.2 ⟨?_, ?_⟩
  · intro z
    dsimp only
    exact o_piece (word_26 H) H.vs 2 (by norm_num) _ rfl _ _ z
  refine List.forall_mem_cons.2 ⟨?_, ?_⟩
  · intro z
    dsimp only
    exact o_piece (word_26 H) H.vs 1 (by norm_num) _ rfl _ _ z
  refine List.forall_mem_cons.2 ⟨?_, ?_⟩
  · intro z
    dsimp only
    exact o_piece (word_26 H) H.vs 0 (by norm_num) _ rfl _ _ z
  refine List.forall_mem_cons.2 ⟨?_, ?_⟩
  · intro z
    dsimp only
    exact o_piece (word_25 H) H.vs 7 (by norm_num) _ rfl _ _ z
  refine List.forall_mem_cons.2 ⟨?_, ?_⟩
  · intro z
    dsimp only
    exact o_piece (word_25 H) H.vs 6 (by norm_num) _ rfl _ _ z
  refine List.forall_mem_cons.2 ⟨?_, ?_⟩
  · intro z
    dsimp only
    exact o_piece (word_25 H) H.vs 5 (by norm_num) _ rfl _ _ z
  refine List.forall_mem_cons.2 ⟨?_, ?_⟩
  · intro z
    dsimp only
    exact o_piece (word_25 H) H.vs 4 (by norm_num) _ rfl _ _ z
  refine List.forall_mem_cons.2 ⟨?_, ?_⟩
  · intro z
    dsimp only
    exact o_piece (word_25 H) H.vs 3 (by norm_num) _ rfl _ _ z
  refine List.forall_mem_cons.2 ⟨?_, ?_⟩
  · intro z
    dsimp only
    exact o_piece (word_25 H) H.vs 2 (by norm_num) _ rfl _ _ z
  refine List.forall_mem_cons.2 ⟨?_, ?_⟩
  · intro z
    dsimp only
    exact o_piece (word_25 H) H.vs 1 (by norm_num) _ rfl _ _ z
  refine List.forall_mem_cons.2 ⟨?_, ?_⟩
  · intro z
    dsimp only
    exact o_piece (word_25 H) H.vs 0 (by norm_num) _ rfl _ _ z
  refine List.forall_mem_cons.2 ⟨?_, ?_⟩
  · intro z
    dsimp only
    exact o_piece (word_24 H) H.vs 7 (by norm_num) _ rfl _ _ z
  refine List.forall_mem_cons.2 ⟨?_, ?_⟩
  · intro z
    dsimp only
    exact o_piece (word_24 H) H.vs 6 (by norm_num) _ rfl _ _ z
  refine List.forall_mem_cons.2 ⟨?_, ?_⟩
  · intro z
    dsimp only
    exact o_piece (word_24 H) H.vs 5 (by norm_num) _ rfl _ _ z
  refine List.forall_mem_cons.2 ⟨?_, ?_⟩
  · intro z
    dsimp only
    exact o_piece (word_24 H) H.vs 4 (by norm_num) _ rfl _ _ z
  refine List.forall_mem_cons.2 ⟨?_, ?_⟩
  · intro z
    dsimp only
    exact o_piece (word_24 H) H.vs 3 (by norm_num) _ rfl _ _ z
  refine List.forall_mem_cons.2 ⟨?_, ?_⟩
  · intro z
    dsimp only
    exact o_piece (word_24 H) H.vs 2 (by norm_num) _ rfl _ _ z
  refine List.forall_mem_cons.2 ⟨?_, ?_⟩
  · intro z
    dsimp only
    exact o_piece (word_24 H) H.vs 1 (by norm_num) _ rfl _ _ z
  refine List.forall_mem_cons.2 ⟨?_, ?_⟩
  · intro z
    dsimp only
    exact o_piece (word_24 H) H.vs 0 (by norm_num) _ rfl _ _ z
  refine List.forall_mem_cons.2 ⟨?_, ?_⟩
  · intro z
    dsimp only
    exact o_piece (word_23 H) H.vs 7 (by norm_num) _ rfl _ _ z
  refine List.forall_mem_cons.2 ⟨?_, ?_⟩
  · intro z
    dsimp only
    exact o_piece (word_23 H) H.vs 6 (by norm_num) _ rfl _ _ z
  refine List.forall_mem_cons.2 ⟨?_, ?_⟩
  · intro z
    dsimp only
    exact o_piece (word_23 H) H.vs 5 (by norm_num) _ rfl _ _ z
  refine List.forall_mem_cons.2 ⟨?_, ?_⟩
  · intro z
    dsimp only
    exact o_piece (word_23 H) H.vs 4 (by norm_num) _ rfl _ _ z
  refine List.forall_mem_cons.2 ⟨?_, ?_⟩
  · intro z
    dsimp only
    exact o_piece (word_23 H) H.vs 3 (by norm_num) _ rfl _ _ z
  refine List.forall_mem_cons.2 ⟨?_, ?_⟩
  · intro z
    dsimp only
    exact o_piece (word_23 H) H.vs 2 (by norm_num) _ rfl _ _ z
  refine List.forall_mem_cons.2 ⟨?_, ?_⟩
  · intro z
    dsimp only
    exact o_piece (word_23 H) H.vs 1 (by norm_num) _ rfl _ _ z
  refine List.forall_mem_cons.2 ⟨?_, ?_⟩
  · intro z
    dsimp only
    exact o_piece (word_23 H) H.vs 0 (by norm_num) _ rfl _ _ z
  refine List.forall_mem_cons.2 ⟨?_, ?_⟩
  · intro z
    dsimp only
    exact o_piece (word_22 H) H.vs 7 (by norm_num) _ rfl _ _ z
  refine List.forall_mem_cons.2 ⟨?_, ?_⟩
  · intro z
    dsimp only
    exact o_piece (word_22 H) H.vs 6 (by norm_num) _ rfl _ _ z
  refine List.forall_mem_cons.2 ⟨?_, ?_⟩
  · intro z
    dsimp only
    exact o_piece (word_22 H) H.vs 5 (by norm_num) _ rfl _ _ z
  refine List.forall_mem_cons.2 ⟨?_, ?_⟩
  · intro z
    dsimp only
    exact o_piece (word_22 H) H.vs 4 (by norm_num) _ rfl _ _ z
  refine List.forall_mem_cons.2 ⟨?_, ?_⟩
  · intro z
    dsimp only
    exact o_piece (word_22 H) H.vs 3 (by norm_num) _ rfl _ _ z
  refine List.forall_mem_cons.2 ⟨?_, ?_⟩
  · intro z
    dsimp only
    exact o_piece (word_22 H) H.vs 2 (by norm_num) _ rfl _ _ z
  refine List.forall_mem_cons.2 ⟨?_, ?_⟩
  · intro z
    dsimp only
    exact o_piece (word_22 H) H.vs 1 (by norm_num) _ rfl _ _ z
  refine List.forall_mem_cons.2 ⟨?_, ?_⟩
  · intro z
    dsimp only
    exact o_piece (word_22 H) H.vs 0 (by norm_num) _ rfl _ _ z
  refine List.forall_mem_cons.2 ⟨?_, ?_⟩
  · intro z
    dsimp only
    exact o_piece (word_21 H) H.vs 7 (by norm_num) _ rfl _ _ z
  refine List.forall_mem_cons.2 ⟨?_, ?_⟩
  · intro z
    dsimp only
    exact o_piece (word_21 H) H.vs 6 (by norm_num) _ rfl _ _ z
  refine List.forall_mem_cons.2 ⟨?_, ?_⟩
  · intro z
    dsimp only
    exact o_piece (word_21 H) H.vs 5 (by norm_num) _ rfl _ _ z
  refine List.forall_mem_cons.2 ⟨?_, ?_⟩
  · intro z
    dsimp only
    exact o_piece (word_21 H) H.vs 4 (by norm_num) _ rfl _ _ z
  refine List.forall_mem_cons.2 ⟨?_, ?_⟩
  · intro z
    dsimp only
    exact o_piece (word_21 H) H.vs 3 (by norm_num) _ rfl _ _ z
  refine List.forall_mem_cons.2 ⟨?_, ?_⟩
  · intro z
    dsimp only
    exact o_piece (word_21 H) H.vs 2 (by norm_num) _ rfl _ _ z
  refine List.forall_mem_cons.2 ⟨?_, ?_⟩
  · intro z
    dsimp only
    exact o_piece (word_21 H) H.vs 1 (by norm_num) _ rfl _ _ z
  refine List.forall_mem_cons.2 ⟨?_, ?_⟩
  · intro z
    dsimp only
    exact o_piece (word_21 H) H.vs 0 (by norm_num) _ rfl _ _ z
  refine List.forall_mem_cons.2 ⟨?_, ?_⟩
  · intro z
    dsimp only
    exact o_piece (word_20 H) H.vs 7 (by norm_num) _ rfl _ _ z
  refine List.forall_mem_cons.2 ⟨?_, ?_⟩
  · intro z
    dsimp only
    exact o_piece (word_20 H) H.vs 6 (by norm_num) _ rfl _ _ z
  refine List.forall_mem_cons.2 ⟨?_, ?_⟩
  · intro z
    dsimp only
    exact o_piece (word_20 H) H.vs 5 (by norm_num) _ rfl _ _ z
  refine List.forall_mem_cons.2 ⟨?_, ?_⟩
  · intro z
    dsimp only
    exact o_piece (word_20 H) H.vs 4 (by norm_num) _ rfl _ _ z
  refine List.forall_mem_cons.2 ⟨?_, ?_⟩
  · intro z
    dsimp only
    exact o_piece (word_20 H) H.vs 3 (by norm_num) _ rfl _ _ z
  refine List.forall_mem_cons.2 ⟨?_, ?_⟩
  · intro z
    dsimp only
    exact o_piece (word_20 H) H.vs 2 (by norm_num) _ rfl _ _ z
  refine List.forall_mem_cons.2 ⟨?_, ?_⟩
  · intro z
    dsimp only
    exact o_piece (word_20 H) H.vs 1 (by norm_num) _ rfl _ _ z
  refine List.forall_mem_cons.2 ⟨?_, ?_⟩
  · intro z
    dsimp only
    exact o_piece (word_20 H) H.vs 0 (by norm_num) _ rfl _ _ z
  refine List.forall_mem_cons.2 ⟨?_, ?_⟩
  · intro z
    dsimp only
    exact o_piece (word_19 H) H.vs 7 (by norm_num) _ rfl _ _ z
  refine List.forall_mem_cons.2 ⟨?_, ?_⟩
  · intro z
    dsimp only
    exact o_piece (word_19 H) H.vs 6 (by norm_num) _ rfl _ _ z
  refine List.forall_mem_cons.2 ⟨?_, ?_⟩
  · intro z
    dsimp only
    exact o_piece (word_19 H) H.vs 5 (by norm_num) _ rfl _ _ z
  refine List.forall_mem_cons.2 ⟨?_, ?_⟩
  · intro z
    dsimp only
    exact o_piece (word_19 H) H.vs 4 (by norm_num) _ rfl _ _ z
  refine List.forall_mem_cons.2 ⟨?_, ?_⟩
  · intro z
    dsimp only
    exact o_piece (word_19 H) H.vs 3 (by norm_num) _ rfl _ _ z
  refine List.forall_mem_cons.2 ⟨?_, ?_⟩
  · intro z
    dsimp only
    exact o_piece (word_19 H) H.vs 2 (by norm_num) _ rfl _ _ z
  refine List.forall_mem_cons.2 ⟨?_, ?_⟩
  · intro z
    dsimp only
    exact o_piece (word_19 H) H.vs 1 (by norm_num) _ rfl _ _ z
  refine List.forall_mem_cons.2 ⟨?_, ?_⟩
  · intro z
    dsimp only
    exact o_piece (word_19 H) H.vs 0 (by norm_num) _ rfl _ _ z
  refine List.forall_mem_cons.2 ⟨?_, ?_⟩
  · intro z
    dsimp only
    exact o_piece (word_18 H) H.vs 7 (by norm_num) _ rfl _ _ z
  refine List.forall_mem_cons.2 ⟨?_, ?_⟩
  · intro z
    dsimp only
    exact o_piece (word_18 H) H.vs 6 (by norm_num) _ rfl _ _ z
  refine List.forall_mem_cons.2 ⟨?_, ?_⟩
  · intro z
    dsimp only
    exact o_piece (word_18 H) H.vs 5 (by norm_num) _ rfl _ _ z
  refine List.forall_mem_cons.2 ⟨?_, ?_⟩
  · intro z
    dsimp only
    exact o_piece (word_18 H) H.vs 4 (by norm_num) _ rfl _ _ z
  refine List.forall_mem_cons.2 ⟨?_, ?_⟩
  · intro z
    dsimp only
    exact o_piece (word_18 H) H.vs 3 (by norm_num) _ rfl _ _ z
  refine List.forall_mem_cons.2 ⟨?_, ?_⟩
  · intro z
    dsimp only
    exact o_piece (word_18 H) H.vs 2 (by norm_num) _ rfl _ _ z
  refine List.forall_mem_cons.2 ⟨?_, ?_⟩
  · intro z
    dsimp only
    exact o_piece (word_18 H) H.vs 1 (by norm_num) _ rfl _ _ z
  refine List.forall_mem_cons.2 ⟨?_, ?_⟩
  · intro z
    dsimp only
    exact o_piece (word_18 H) H.vs 0 (by norm_num) _ rfl _ _ z
  refine List.forall_mem_cons.2 ⟨?_, ?_⟩
  · intro z
    dsimp only
    exact o_piece (word_17 H) H.vs 7 (by norm_num) _ rfl _ _ z
  refine List.forall_mem_cons.2 ⟨?_, ?_⟩
  · intro z
    dsimp only
    exact o_piece (word_17 H) H.vs 6 (by norm_num) _ rfl _ _ z
  refine List.forall_mem_cons.2 ⟨?_, ?_⟩
  · intro z
    dsimp only
    exact o_piece (word_17 H) H.vs 5 (by norm_num) _ rfl _ _ z
  refine List.forall_mem_cons.2 ⟨?_, ?_⟩
  · intro z
    dsimp only
    exact o_piece (word_17 H) H.vs 4 (by norm_num) _ rfl _ _ z
  refine List.forall_mem_cons.2 ⟨?_, ?_⟩
  · intro z
    dsimp only
    exact o_piece (word_17 H) H.vs 3 (by norm_num) _ rfl _ _ z
  refine List.forall_mem_cons.2 ⟨?_, ?_⟩
  · intro z
    dsimp only
    exact o_piece (word_17 H) H.vs 2 (by norm_num) _ rfl _ _ z
  refine List.forall_mem_cons.2 ⟨?_, ?_⟩
  · intro z
    dsimp only
    exact o_piece (word_17 H) H.vs 1 (by norm_num) _ rfl _ _ z
  refine List.forall_mem_cons.2 ⟨?_, ?_⟩
  · intro z
    dsimp only
    exact o_piece (word_17 H) H.vs 0 (by norm_num) _ rfl _ _ z
  refine List.forall_mem_cons.2 ⟨?_, ?_⟩
  · intro z
    dsimp only
    exact o_piece (word_16 H) H.vs 7 (by norm_num) _ rfl _ _ z
  refine List.forall_mem_cons.2 ⟨?_, ?_⟩
  · intro z
    dsimp only
    exact o_piece (word_16 H) H.vs 6 (by norm_num) _ rfl _ _ z
  refine List.forall_mem_cons.2 ⟨?_, ?_⟩
  · intro z
    dsimp only
    exact o_piece (word_16 H) H.vs 5 (by norm_num) _ rfl _ _ z
  refine List.forall_mem_cons.2 ⟨?_, ?_⟩
  · intro z
    dsimp only
    exact o_piece (word_16 H) H.vs 4 (by norm_num) _ rfl _ _ z
  refine List.forall_mem_cons.2 ⟨?_, ?_⟩
  · intro z
    dsimp only
    exact o_piece (word_16 H) H.vs 3 (by norm_num) _ rfl _ _ z
  refine List.forall_mem_cons.2 ⟨?_, ?_⟩
  · intro z
    dsimp only
    exact o_piece (word_16 H) H.vs 2 (by norm_num) _ rfl _ _ z
  refine List.forall_mem_cons.2 ⟨?_, ?_⟩
  · intro z
    dsimp only
    exact o_piece (word_16 H) H.vs 1 (by norm_num) _ rfl _ _ z
  refine List.forall_mem_cons.2 ⟨?_, ?_⟩
  · intro z
    dsimp only
    exact o_piece (word_16 H) H.vs 0 (by norm_num) _ rfl _ _ z
  refine List.forall_mem_cons.2 ⟨?_, ?_⟩
  · intro z
    dsimp only
    exact o_piece (word_15 H) H.vs 7 (by norm_num) _ rfl _ _ z
  refine List.forall_mem_cons.2 ⟨?_, ?_⟩
  · intro z
    dsimp only
    exact o_piece (word_15 H) H.vs 6 (by norm_num) _ rfl _ _ z
  refine List.forall_mem_cons.2 ⟨?_, ?_⟩
  · intro z
    dsimp only
    exact o_piece (word_15 H) H.vs 5 (by norm_num) _ rfl _ _ z
  refine List.forall_mem_cons.2 ⟨?_, ?_⟩
  · intro z
    dsimp only
    exact o_piece (word_15 H) H.vs 4 (by norm_num) _ rfl _ _ z
  refine List.forall_mem_cons.2 ⟨?_, ?_⟩
  · intro z
    dsimp only
    exact o_piece (word_15 H) H.vs 3 (by norm_num) _ rfl _ _ z
  refine List.forall_mem_cons.2 ⟨?_, ?_⟩
  · intro z
    dsimp only
    exact o_piece (word_15 H) H.vs 2 (by norm_num) _ rfl _ _ z
  refine List.forall_mem_cons.2 ⟨?_, ?_⟩
  · intro z
    dsimp only
    exact o_piece (word_15 H) H.vs 1 (by norm_num) _ rfl _ _ z
  refine List.forall_mem_cons.2 ⟨?_, ?_⟩
  · intro z
    dsimp only
    exact o_piece (word_15 H) H.vs 0 (by norm_num) _ rfl _ _ z
  refine List.forall_mem_cons.2 ⟨?_, ?_⟩
  · intro z
    dsimp only
    exact o_piece (word_14 H) H.vs 7 (by norm_num) _ rfl _ _ z
  refine List.forall_mem_cons.2 ⟨?_, ?_⟩
  · intro z
    dsimp only
    exact o_piece (word_14 H) H.vs 6 (by norm_num) _ rfl _ _ z
  refine List.forall_mem_cons.2 ⟨?_, ?_⟩
  · intro z
    dsimp only
    exact o_piece (word_14 H) H.vs 5 (by norm_num) _ rfl _ _ z
  refine List.forall_mem_cons.2 ⟨?_, ?_⟩
  · intro z
    dsimp only
    exact o_piece (word_14 H) H.vs 4 (by norm_num) _ rfl _ _ z
  refine List.forall_mem_cons.2 ⟨?_, ?_⟩
  · intro z
    dsimp only
    exact o_piece (word_14 H) H.vs 3 (by norm_num) _ rfl _ _ z
  refine List.forall_mem_cons.2 ⟨?_, ?_⟩
  · intro z
    dsimp only
    exact o_piece (word_14 H) H.vs 2 (by norm_num) _ rfl _ _ z
  refine List.forall_mem_cons.2 ⟨?_, ?_⟩
  · intro z
    dsimp only
    exact o_piece (word_14 H) H.vs 1 (by norm_num) _ rfl _ _ z
  refine List.forall_mem_cons.2 ⟨?_, ?_⟩
  · intro z
    dsimp only
    exact o_piece (word_14 H) H.vs 0 (by norm_num) _ rfl _ _ z
  refine List.forall_mem_cons.2 ⟨?_, ?_⟩
  · intro z
    dsimp only
    exact o_piece (word_13 H) H.vs 7 (by norm_num) _ rfl _ _ z
  refine List.forall_mem_cons.2 ⟨?_, ?_⟩
  · intro z
    dsimp only
    exact o_piece (word_13 H) H.vs 6 (by norm_num) _ rfl _ _ z
  refine List.forall_mem_cons.2 ⟨?_, ?_⟩
  · intro z
    dsimp only
    exact o_piece (word_13 H) H.vs 5 (by norm_num) _ rfl _ _ z
  refine List.forall_mem_cons.2 ⟨?_, ?_⟩
  · intro z
    dsimp only
    exact o_piece (word_13 H) H.vs 4 (by norm_num) _ rfl _ _ z
  refine List.forall_mem_cons.2 ⟨?_, ?_⟩
  · intro z
    dsimp only
    exact o_piece (word_13 H) H.vs 3 (by norm_num) _ rfl _ _ z
  refine List.forall_mem_cons.2 ⟨?_, ?_⟩
  · intro z
    dsimp only
    exact o_piece (word_13 H) H.vs 2 (by norm_num) _ rfl _ _ z
  refine List.forall_mem_cons.2 ⟨?_, ?_⟩
  · intro z
    dsimp only
    exact o_piece (word_13 H) H.vs 1 (by norm_num) _ rfl _ _ z
  refine List.forall_mem_cons.2 ⟨?_, ?_⟩
  · intro z
    dsimp only
    exact o_piece (word_13 H) H.vs 0 (by norm_num) _ rfl _ _ z
  refine List.forall_mem_cons.2 ⟨?_, ?_⟩
  · intro z
    dsimp only
    exact o_piece (word_12 H) H.vs 7 (by norm_num) _ rfl _ _ z
  refine List.forall_mem_cons.2 ⟨?_, ?_⟩
  · intro z
    dsimp only
    exact o_piece (word_12 H) H.vs 6 (by norm_num) _ rfl _ _ z
  refine List.forall_mem_cons.2 ⟨?_, ?_⟩
  · intro z
    dsimp only
    exact o_piece (word_12 H) H.vs 5 (by norm_num) _ rfl _ _ z
  refine List.forall_mem_cons.2 ⟨?_, ?_⟩
  · intro z
    dsimp only
    exact o_piece (word_12 H) H.vs 4 (by norm_num) _ rfl _ _ z
  refine List.forall_mem_cons.2 ⟨?_, ?_⟩
  · intro z
    dsimp only
    exact o_piece (word_12 H) H.vs 3 (by norm_num) _ rfl _ _ z
  refine List.forall_mem_cons.2 ⟨?_, ?_⟩
  · intro z
    dsimp only
    exact o_piece (word_12 H) H.vs 2 (by norm_num) _ rfl _ _ z
  refine List.forall_mem_cons.2 ⟨?_, ?_⟩
  · intro z
    dsimp only
    exact o_piece (word_12 H) H.vs 1 (by norm_num) _ rfl _ _ z
  refine List.forall_mem_cons.2 ⟨?_, ?_⟩
  · intro z
    dsimp only
    exact o_piece (word_12 H) H.vs 0 (by norm_num) _ rfl _ _ z
  refine List.forall_mem_cons.2 ⟨?_, ?_⟩
  · intro z
    dsimp only
    exact o_piece (word_11 H) H.vs 7 (by norm_num) _ rfl _ _ z
  refine List.forall_mem_cons.2 ⟨?_, ?_⟩
  · intro z
    dsimp only
    exact o_piece (word_11 H) H.vs 6 (by norm_num) _ rfl _ _ z
  refine List.forall_mem_cons.2 ⟨?_, ?_⟩
  · intro z
    dsimp only
    exact o_piece (word_11 H) H.vs 5 (by norm_num) _ rfl _ _ z
  refine List.forall_mem_cons.2 ⟨?_, ?_⟩
  · intro z
    dsimp only
    exact o_piece (word_11 H) H.vs 4 (by norm_num) _ rfl _ _ z
  refine List.forall_mem_cons.2 ⟨?_, ?_⟩
  · intro z
    dsimp only
    exact o_piece (word_11 H) H.vs 3 (by norm_num) _ rfl _ _ z
  refine List.forall_mem_cons.2 ⟨?_, ?_⟩
  · intro z
    dsimp only
    exact o_piece (word_11 H) H.vs 2 (by norm_num) _ rfl _ _ z
  refine List.forall_mem_cons.2 ⟨?_, ?_⟩
  · intro z
    dsimp only
    exact o_piece (word_11 H) H.vs 1 (by norm_num) _ rfl _ _ z
  refine List.forall_mem_cons.2 ⟨?_, ?_⟩
  · intro z
    dsimp only
    exact o_piece (word_11 H) H.vs 0 (by norm_num) _ rfl _ _ z
  refine List.forall_mem_cons.2 ⟨?_, ?_⟩
  · intro z
    dsimp only
    exact o_piece (word_10 H) H.vs 7 (by norm_num) _ rfl _ _ z
  refine List.forall_mem_cons.2 ⟨?_, ?_⟩
  · intro z
    dsimp only
    exact o_piece (word_10 H) H.vs 6 (by norm_num) _ rfl _ _ z
  refine List.forall_mem_cons.2 ⟨?_, ?_⟩
  · intro z
    dsimp only
    exact o_piece (word_10 H) H.vs 5 (by norm_num) _ rfl _ _ z
  refine List.forall_mem_cons.2 ⟨?_, ?_⟩
  · intro z
    dsimp only
    exact o_piece (word_10 H) H.vs 4 (by norm_num) _ rfl _ _ z
  refine List.forall_mem_cons.2 ⟨?_, ?_⟩
  · intro z
    dsimp only
    exact o_piece (word_10 H) H.vs 3 (by norm_num) _ rfl _ _ z
  refine List.forall_mem_cons.2 ⟨?_, ?_⟩
  · intro z
    dsimp only
    exact o_piece (word_10 H) H.vs 2 (by norm_num) _ rfl _ _ z
  refine List.forall_mem_cons.2 ⟨?_, ?_⟩
  · intro z
    dsimp only
    exact o_piece (word_10 H) H.vs 1 (by norm_num) _ rfl _ _ z
  refine List.forall_mem_cons.2 ⟨?_, ?_⟩
  · intro z
    dsimp only
    exact o_piece (word_10 H) H.vs 0 (by norm_num) _ rfl _ _ z
  refine List.forall_mem_cons.2 ⟨?_, ?_⟩
  · intro z
    dsimp only
    exact o_piece (word_9 H) H.vs 7 (by norm_num) _ rfl _ _ z
  refine List.forall_mem_cons.2 ⟨?_, ?_⟩
  · intro z
    dsimp only
    exact o_piece (word_9 H) H.vs 6 (by norm_num) _ rfl _ _ z
  refine List.forall_mem_cons.2 ⟨?_, ?_⟩
  · intro z
    dsimp only
    exact o_piece (word_9 H) H.vs 5 (by norm_num) _ rfl _ _ z
  refine List.forall_mem_cons.2 ⟨?_, ?_⟩
  · intro z
    dsimp only
    exact o_piece (word_9 H) H.vs 4 (by norm_num) _ rfl _ _ z
  refine List.forall_mem_cons.2 ⟨?_, ?_⟩
  · intro z
    dsimp only
    exact o_piece (word_9 H) H.vs 3 (by norm_num) _ rfl _ _ z
  refine List.forall_mem_cons.2 ⟨?_, ?_⟩
  · intro z
    dsimp only
    exact o_piece (word_9 H) H.vs 2 (by norm_num) _ rfl _ _ z
  refine List.forall_mem_cons.2 ⟨?_, ?_⟩
  · intro z
    dsimp only
    exact o_piece (word_9 H) H.vs 1 (by norm_num) _ rfl _ _ z
  refine List.forall_mem_cons.2 ⟨?_, ?_⟩
  · intro z
    dsimp only
    exact o_piece (word_9 H) H.vs 0 (by norm_num) _ rfl _ _ z
  refine List.forall_mem_cons.2 ⟨?_, ?_⟩
  · intro z
    dsimp only
    exact o_piece (word_8 H) H.vs 7 (by norm_num) _ rfl _ _ z
  refine List.forall_mem_cons.2 ⟨?_, ?_⟩
  · intro z
    dsimp only
    exact o_piece (word_8 H) H.vs 6 (by norm_num) _ rfl _ _ z
  refine List.forall_mem_cons.2 ⟨?_, ?_⟩
  · intro z
    dsimp only
    exact o_piece (word_8 H) H.vs 5 (by norm_num) _ rfl _ _ z
  refine List.forall_mem_cons.2 ⟨?_, ?_⟩
  · intro z
    dsimp only
    exact o_piece (word_8 H) H.vs 4 (by norm_num) _ rfl _ _ z
  refine List.forall_mem_cons.2 ⟨?_, ?_⟩
  · intro z
    dsimp only
    exact o_piece (word_8 H) H.vs 3 (by norm_num) _ rfl _ _ z
  refine List.forall_mem_cons.2 ⟨?_, ?_⟩
  · intro z
    dsimp only
    exact o_piece (word_8 H) H.vs 2 (by norm_num) _ rfl _ _ z
  refine List.forall_mem_cons.2 ⟨?_, ?_⟩
  · intro z
    dsimp only
    exact o_piece (word_8 H) H.vs 1 (by norm_num) _ rfl _ _ z
  refine List.forall_mem_cons.2 ⟨?_, ?_⟩
  · intro z
    dsimp only
    exact o_piece (word_8 H) H.vs 0 (by norm_num) _ rfl _ _ z
  refine List.forall_mem_cons.2 ⟨?_, ?_⟩
  · intro z
    dsimp only
    exact o_piece (word_7 H) H.vs 7 (by norm_num) _ rfl _ _ z
  refine List.forall_mem_cons.2 ⟨?_, ?_⟩
  · intro z
    dsimp only
    exact o_piece (word_7 H) H.vs 6 (by norm_num) _ rfl _ _ z
  refine List.forall_mem_cons.2 ⟨?_, ?_⟩
  · intro z
    dsimp only
    exact o_piece (word_7 H) H.vs 5 (by norm_num) _ rfl _ _ z
  refine List.forall_mem_cons.2 ⟨?_, ?_⟩
  · intro z
    dsimp only
    exact o_piece (word_7 H) H.vs 4 (by norm_num) _ rfl _ _ z
  refine List.forall_mem_cons.2 ⟨?_, ?_⟩
  · intro z
    dsimp only
    exact o_piece (word_7 H) H.vs 3 (by norm_num) _ rfl _ _ z
  refine List.forall_mem_cons.2 ⟨?_, ?_⟩
  · intro z
    dsimp only
    exact o_piece (word_7 H) H.vs 2 (by norm_num) _ rfl _ _ z
  refine List.forall_mem_cons.2 ⟨?_, ?_⟩
  · intro z
    dsimp only
    exact o_piece (word_7 H) H.vs 1 (by norm_num) _ rfl _ _ z
  refine List.forall_mem_cons.2 ⟨?_, ?_⟩
  · intro z
    dsimp only
    exact o_piece (word_7 H) H.vs 0 (by norm_num) _ rfl _ _ z
  refine List.forall_mem_cons.2 ⟨?_, ?_⟩
  · intro z
    dsimp only
    exact o_piece (word_6 H) H.vs 7 (by norm_num) _ rfl _ _ z
  refine List.forall_mem_cons.2 ⟨?_, ?_⟩
  · intro z
    dsimp only
    exact o_piece (word_6 H) H.vs 6 (by norm_num) _ rfl _ _ z
  refine List.forall_mem_cons.2 ⟨?_, ?_⟩
  · intro z
    dsimp only
    exact o_piece (word_6 H) H.vs 5 (by norm_num) _ rfl _ _ z
  refine List.forall_mem_cons.2 ⟨?_, ?_⟩
  · intro z
    dsimp only
    exact o_piece (word_6 H) H.vs 4 (by norm_num) _ rfl _ _ z
  refine List.forall_mem_cons.2 ⟨?_, ?_⟩
  · intro z
    dsimp only
    exact o_piece (word_6 H) H.vs 3 (by norm_num) _ rfl _ _ z
  refine List.forall_mem_cons.2 ⟨?_, ?_⟩
  · intro z
    dsimp only
    exact o_piece (word_6 H) H.vs 2 (by norm_num) _ rfl _ _ z
  refine List.forall_mem_cons.2 ⟨?_, ?_⟩
  · intro z
    dsimp only
    exact o_piece (word_6 H) H.vs 1 (by norm_num) _ rfl _ _ z
  refine List.forall_mem_cons.2 ⟨?_, ?_⟩
  · intro z
    dsimp only
    exact o_piece (word_6 H) H.vs 0 (by norm_num) _ rfl _ _ z
  refine List.forall_mem_cons.2 ⟨?_, ?_⟩
  · intro z
    dsimp only
    exact o_piece (word_5 H) H.vs 7 (by norm_num) _ rfl _ _ z
  refine List.forall_mem_cons.2 ⟨?_, ?_⟩
  · intro z
    dsimp only
    exact o_piece (word_5 H) H.vs 6 (by norm_num) _ rfl _ _ z
  refine List.forall_mem_cons.2 ⟨?_, ?_⟩
  · intro z
    dsimp only
    exact o_piece (word_5 H) H.vs 5 (by norm_num) _ rfl _ _ z
  refine List.forall_mem_cons.2 ⟨?_, ?_⟩
  · intro z
    dsimp only
    exact o_piece (word_5 H) H.vs 4 (by norm_num) _ rfl _ _ z
  refine List.forall_mem_cons.2 ⟨?_, ?_⟩
  · intro z
    dsimp only
    exact o_piece (word_5 H) H.vs 3 (by norm_num) _ rfl _ _ z
  refine List.forall_mem_cons.2 ⟨?_, ?_⟩
  · intro z
    dsimp only
    exact o_piece (word_5 H) H.vs 2 (by norm_num) _ rfl _ _ z
  refine List.forall_mem_cons.2 ⟨?_, ?_⟩
  · intro z
    dsimp only
    exact o_piece (word_5 H) H.vs 1 (by norm_num) _ rfl _ _ z
  refine List.forall_mem_cons.2 ⟨?_, ?_⟩
  · intro z
    dsimp only
    exact o_piece (word_5 H) H.vs 0 (by norm_num) _ rfl _ _ z
  refine List.forall_mem_cons.2 ⟨?_, ?_⟩
  · intro z
    dsimp only
    exact o_piece (word_4 H) H.vs 7 (by norm_num) _ rfl _ _ z
  refine List.forall_mem_cons.2 ⟨?_, ?_⟩
  · intro z
    dsimp only
    exact o_piece (word_4 H) H.vs 6 (by norm_num) _ rfl _ _ z
  refine List.forall_mem_cons.2 ⟨?_, ?_⟩
  · intro z
    dsimp only
    exact o_piece (word_4 H) H.vs 5 (by norm_num) _ rfl _ _ z
  refine List.forall_mem_cons.2 ⟨?_, ?_⟩
  · intro z
    dsimp only
    exact o_piece (word_4 H) H.vs 4 (by norm_num) _ rfl _ _ z
  refine List.forall_mem_cons.2 ⟨?_, ?_⟩
  · intro z
    dsimp only
    exact o_piece (word_4 H) H.vs 3 (by norm_num) _ rfl _ _ z
  refine List.forall_mem_cons.2 ⟨?_, ?_⟩
  · intro z
    dsimp only
    exact o_piece (word_4 H) H.vs 2 (by norm_num) _ rfl _ _ z
  refine List.forall_mem_cons.2 ⟨?_, ?_⟩
  · intro z
    dsimp only
    exact o_piece (word_4 H) H.vs 1 (by norm_num) _ rfl _ _ z
  refine List.forall_mem_cons.2 ⟨?_, ?_⟩
  · intro z
    dsimp only
    exact o_piece (word_4 H) H.vs 0 (by norm_num) _ rfl _ _ z
  refine List.forall_mem_cons.2 ⟨?_, ?_⟩
  · intro z
    dsimp only
    exact o_piece (word_3 H) H.vs 7 (by norm_num) _ rfl _ _ z
  refine List.forall_mem_cons.2 ⟨?_, ?_⟩
  · intro z
    dsimp only
    exact o_piece (word_3 H) H.vs 6 (by norm_num) _ rfl _ _ z
  refine List.forall_mem_cons.2 ⟨?_, ?_⟩
  · intro z
    dsimp only
    exact o_piece (word_3 H) H.vs 5 (by norm_num) _ rfl _ _ z
  refine List.forall_mem_cons.2 ⟨?_, ?_⟩
  · intro z
    dsimp only
    exact o_piece (word_3 H) H.vs 4 (by norm_num) _ rfl _ _ z
  refine List.forall_mem_cons.2 ⟨?_, ?_⟩
  · intro z
    dsimp only
    exact o_piece (word_3 H) H.vs 3 (by norm_num) _ rfl _ _ z
  refine List.forall_mem_cons.2 ⟨?_, ?_⟩
  · intro z
    dsimp only
    exact o_piece (word_3 H) H.vs 2 (by norm_num) _ rfl _ _ z
  refine List.forall_mem_cons.2 ⟨?_, ?_⟩
  · intro z
    dsimp only
    exact o_piece (word_3 H) H.vs 1 (by norm_num) _ rfl _ _ z
  refine List.forall_mem_cons.2 ⟨?_, ?_⟩
  · intro z
    dsimp only
    exact o_piece (word_3 H) H.vs 0 (by norm_num) _ rfl _ _ z
  refine List.forall_mem_cons.2 ⟨?_, ?_⟩
  · intro z
    dsimp only
    exact o_piece (word_2 H) H.vs 7 (by norm_num) _ rfl _ _ z
  refine List.forall_mem_cons.2 ⟨?_, ?_⟩
  · intro z
    dsimp only
    exact o_piece (word_2 H) H.vs 6 (by norm_num) _ rfl _ _ z
  refine List.forall_mem_cons.2 ⟨?_, ?_⟩
  · intro z
    dsimp only
    exact o_piece (word_2 H) H.vs 5 (by norm_num) _ rfl _ _ z
  refine List.forall_mem_cons.2 ⟨?_, ?_⟩
  · intro z
    dsimp only
    exact o_piece (word_2 H) H.vs 4 (by norm_num) _ rfl _ _ z
  refine List.forall_mem_cons.2 ⟨?_, ?_⟩
  · intro z
    dsimp only
    exact o_piece (word_2 H) H.vs 3 (by norm_num) _ rfl _ _ z
  refine List.forall_mem_cons.2 ⟨?_, ?_⟩
  · intro z
    dsimp only
    exact o_piece (word_2 H) H.vs 2 (by norm_num) _ rfl _ _ z
  refine List.forall_mem_cons.2 ⟨?_, ?_⟩
  · intro z
    dsimp only
    exact o_piece (word_2 H) H.vs 1 (by norm_num) _ rfl _ _ z
  refine List.forall_mem_cons.2 ⟨?_, ?_⟩
  · intro z
    dsimp only
    exact o_piece (word_2 H) H.vs 0 (by norm_num) _ rfl _ _ z
  refine List.forall_mem_cons.2 ⟨?_, ?_⟩
  · intro z
    dsimp only
    exact o_piece (word_1 H) H.vs 7 (by norm_num) _ rfl _ _ z
  refine List.forall_mem_cons.2 ⟨?_, ?_⟩
  · intro z
    dsimp only
    exact o_piece (word_1 H) H.vs 6 (by norm_num) _ rfl _ _ z
  refine List.forall_mem_cons.2 ⟨?_, ?_⟩
  · intro z
    dsimp only
    exact o_piece (word_1 H) H.vs 5 (by norm_num) _ rfl _ _ z
  refine List.forall_mem_cons.2 ⟨?_, ?_⟩
  · intro z
    dsimp only
    exact o_piece (word_1 H) H.vs 4 (by norm_num) _ rfl _ _ z
  refine List.forall_mem_cons.2 ⟨?_, ?_⟩
  · intro z
    dsimp only
    exact o_piece (word_1 H) H.vs 3 (by norm_num) _ rfl _ _ z
  refine List.forall_mem_cons.2 ⟨?_, ?_⟩
  · intro z
    dsimp only
    exact o_piece (word_1 H) H.vs 2 (by norm_num) _ rfl _ _ z
  refine List.forall_mem_cons.2 ⟨?_, ?_⟩
  · intro z
    dsimp only
    exact o_piece (word_1 H) H.vs 1 (by norm_num) _ rfl _ _ z
  refine List.forall_mem_cons.2 ⟨?_, ?_⟩
  · intro z
    dsimp only
    exact o_piece (word_1 H) H.vs 0 (by norm_num) _ rfl _ _ z
  refine List.forall_mem_cons.2 ⟨?_, ?_⟩
  · intro z
    dsimp only
    exact o_piece (word_0 H) H.vs 7 (by norm_num) _ rfl _ _ z
  refine List.forall_mem_cons.2 ⟨?_, ?_⟩
  · intro z
    dsimp only
    exact o_piece (word_0 H) H.vs 6 (by norm_num) _ rfl _ _ z
  refine List.forall_mem_cons.2 ⟨?_, ?_⟩
  · intro z
    dsimp only
    exact o_piece (word_0 H) H.vs 5 (by norm_num) _ rfl _ _ z
  refine List.forall_mem_cons.2 ⟨?_, ?_⟩
  · intro z
    dsimp only
    exact o_piece (word_0 H) H.vs 4 (by norm_num) _ rfl _ _ z
  refine List.forall_mem_cons.2 ⟨?_, ?_⟩
  · intro z
    dsimp only
    exact o_piece (word_0 H) H.vs 3 (by norm_num) _ rfl _ _ z
  refine List.forall_mem_cons.2 ⟨?_, ?_⟩
  · intro z
    dsimp only
    exact o_piece (word_0 H) H.vs 2 (by norm_num) _ rfl _ _ z
  refine List.forall_mem_cons.2 ⟨?_, ?_⟩
  · intro z
    dsimp only
    exact o_piece (word_0 H) H.vs 1 (by norm_num) _ rfl _ _ z
  refine List.forall_mem_cons.2 ⟨?_, ?_⟩
  · intro z
    dsimp only
    exact o_piece (word_0 H) H.vs 0 (by norm_num) _ rfl _ _ z
  exact fun p hp => absurd hp List.not_mem_nil

/-- The staged output block after the grid point. -/
theorem o_block (H : Base c i arg2 harg2 arg3 harg3 arg6 harg6 arg7 harg7 arg8 harg8 x0 x1 x2 x3 x4 x5 x6 x) (y : S1x1024x1024.Idx) : out0_A_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y = oG x y := by
  unfold out0_A_7
  exact View.read_writes_apply_of_pieces (Val := Elt Ideal) (e := .bf16) VO0_7 VO0_7.junk (fun y : S1x1024x1024.Idx => oG x y) _ (o_list H) y (cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)

end Cert.Fox

end
-- ==== Proof.SBlock.lean ====
module

public import proofs.«01_k».proof.Proof.Word

@[expose] public section

set_option maxRecDepth 16384

/-! # The statistics array -/

noncomputable section

namespace Cert.Fox

open Idealize.ShloMosaic Idealize.ShloMosaic.TcCoe Cert.KernelIdeal Cert.KernelIdeal.Gen

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32} {x : In}

/-- Every stored row of statistics. -/
theorem s_list (H : Base c i arg2 harg2 arg3 harg3 arg6 harg6 arg7 harg7 arg8 harg8 x0 x1 x2 x3 x4 x5 x6 x) : ∀ p ∈ (kernelRun0_A.sl.HS3_64 (F := Ideal) c i arg2 harg2 arg3 harg3 arg4 harg4 arg5 harg5 arg8 harg8 arg11 x0 x1 x2 x3 x6), ∀ z, p.2 z = sG x (p.1.emb z) := by
  unfold kernelRun0_A.sl.HS3_64
  refine List.forall_mem_cons.2 ⟨?_, ?_⟩
  · intro z
    dsimp only
    exact s1_piece (t0 := 992) (ht := by norm_num) (statOk (logOk_mask x 1024 992 rfl (by norm_num) _ _ _ _ _ _ _ _ _ _ causal (fun j d => (key_read _ harg5 x3 1024 (by norm_num) _ _ j d).trans (H.k _ _)) (fun i d => (query_read _ harg4 x2 992 (by norm_num) _ _ _ i d).trans (H.q _ _ _)) H.s (fun j l => (bias_read _ _ _ _ 1024 (by norm_num) _ j l).trans (H.b _ _))) _ _ _ _ _ _ _ _ _) 63 rfl _ z
  refine List.forall_mem_cons.2 ⟨?_, ?_⟩
  · intro z
    dsimp only
    exact s0_piece (t0 := 992) (ht := by norm_num) (statOk (logOk_mask x 1024 992 rfl (by norm_num) _ _ _ _ _ _ _ _ _ _ causal (fun j d => (key_read _ harg5 x3 1024 (by norm_num) _ _ j d).trans (H.k _ _)) (fun i d => (query_read _ harg4 x2 992 (by norm_num) _ _ _ i d).trans (H.q _ _ _)) H.s (fun j l => (bias_read _ _ _ _ 1024 (by norm_num) _ j l).trans (H.b _ _))) _ _ _ _ _ _ _ _ _) 62 rfl _ z
  refine List.forall_mem_cons.2 ⟨?_, ?_⟩
  · intro z
    dsimp only
    exact s1_piece (t0 := 960) (ht := by norm_num) (statOk (logOk_mask x 992 960 rfl (by norm_num) _ _ _ _ _ _ _ _ _ _ causal (fun j d => (key_read _ harg5 x3 992 (by norm_num) _ _ j d).trans (H.k _ _)) (fun i d => (query_read _ harg4 x2 960 (by norm_num) _ _ _ i d).trans (H.q _ _ _)) H.s (fun j l => (bias_read _ _ _ _ 992 (by norm_num) _ j l).trans (H.b _ _))) _ _ _ _ _ _ _ _ _) 61 rfl _ z
  refine List.forall_mem_cons.2 ⟨?_, ?_⟩
  · intro z
    dsimp only
    exact s0_piece (t0 := 960) (ht := by norm_num) (statOk (logOk_mask x 992 960 rfl (by norm_num) _ _ _ _ _ _ _ _ _ _ causal (fun j d => (key_read _ harg5 x3 992 (by norm_num) _ _ j d).trans (H.k _ _)) (fun i d => (query_read _ harg4 x2 960 (by norm_num) _ _ _ i d).trans (H.q _ _ _)) H.s (fun j l => (bias_read _ _ _ _ 992 (by norm_num) _ j l).trans (H.b _ _))) _ _ _ _ _ _ _ _ _) 60 rfl _ z
  refine List.forall_mem_cons.2 ⟨?_, ?_⟩
  · intro z
    dsimp only
    exact s1_piece (t0 := 928) (ht := by norm_num) (statOk (logOk_mask x 960 928 rfl (by norm_num) _ _ _ _ _ _ _ _ _ _ causal (fun j d => (key_read _ harg5 x3 960 (by norm_num) _ _ j d).trans (H.k _ _)) (fun i d => (query_read _ harg4 x2 928 (by norm_num) _ _ _ i d).trans (H.q _ _ _)) H.s (fun j l => (bias_read _ _ _ _ 960 (by norm_num) _ j l).trans (H.b _ _))) _ _ _ _ _ _ _ _ _) 59 rfl _ z
  refine List.forall_mem_cons.2 ⟨?_, ?_⟩
  · intro z
    dsimp only
    exact s0_piece (t0 := 928) (ht := by norm_num) (statOk (logOk_mask x 960 928 rfl (by norm_num) _ _ _ _ _ _ _ _ _ _ causal (fun j d => (key_read _ harg5 x3 960 (by norm_num) _ _ j d).trans (H.k _ _)) (fun i d => (query_read _ harg4 x2 928 (by norm_num) _ _ _ i d).trans (H.q _ _ _)) H.s (fun j l => (bias_read _ _ _ _ 960 (by norm_num) _ j l).trans (H.b _ _))) _ _ _ _ _ _ _ _ _) 58 rfl _ z
  refine List.forall_mem_cons.2 ⟨?_, ?_⟩
  · intro z
    dsimp only
    exact s1_piece (t0 := 896) (ht := by norm_num) (statOk (logOk_mask x 928 896 rfl (by norm_num) _ _ _ _ _ _ _ _ _ _ causal (fun j d => (key_read _ harg5 x3 928 (by norm_num) _ _ j d).trans (H.k _ _)) (fun i d => (query_read _ harg4 x2 896 (by norm_num) _ _ _ i d).trans (H.q _ _ _)) H.s (fun j l => (bias_read _ _ _ _ 928 (by norm_num) _ j l).trans (H.b _ _))) _ _ _ _ _ _ _ _ _) 57 rfl _ z
  refine List.forall_mem_cons.2 ⟨?_, ?_⟩
  · intro z
    dsimp only
    exact s0_piece (t0 := 896) (ht := by norm_num) (statOk (logOk_mask x 928 896 rfl (by norm_num) _ _ _ _ _ _ _ _ _ _ causal (fun j d => (key_read _ harg5 x3 928 (by norm_num) _ _ j d).trans (H.k _ _)) (fun i d => (query_read _ harg4 x2 896 (by norm_num) _ _ _ i d).trans (H.q _ _ _)) H.s (fun j l => (bias_read _ _ _ _ 928 (by norm_num) _ j l).trans (H.b _ _))) _ _ _ _ _ _ _ _ _) 56 rfl _ z
  refine List.forall_mem_cons.2 ⟨?_, ?_⟩
  · intro z
    dsimp only
    exact s1_piece (t0 := 864) (ht := by norm_num) (statOk (logOk_mask x 896 864 rfl (by norm_num) _ _ _ _ _ _ _ _ _ _ causal (fun j d => (key_read _ harg5 x3 896 (by norm_num) _ _ j d).trans (H.k _ _)) (fun i d => (query_read _ harg4 x2 864 (by norm_num) _ _ _ i d).trans (H.q _ _ _)) H.s (fun j l => (bias_read _ _ _ _ 896 (by norm_num) _ j l).trans (H.b _ _))) _ _ _ _ _ _ _ _ _) 55 rfl _ z
  refine List.forall_mem_cons.2 ⟨?_, ?_⟩
  · intro z
    dsimp only
    exact s0_piece (t0 := 864) (ht := by norm_num) (statOk (logOk_mask x 896 864 rfl (by norm_num) _ _ _ _ _ _ _ _ _ _ causal (fun j d => (key_read _ harg5 x3 896 (by norm_num) _ _ j d).trans (H.k _ _)) (fun i d => (query_read _ harg4 x2 864 (by norm_num) _ _ _ i d).trans (H.q _ _ _)) H.s (fun j l => (bias_read _ _ _ _ 896 (by norm_num) _ j l).trans (H.b _ _))) _ _ _ _ _ _ _ _ _) 54 rfl _ z
  refine List.forall_mem_cons.2 ⟨?_, ?_⟩
  · intro z
    dsimp only
    exact s1_piece (t0 := 832) (ht := by norm_num) (statOk (logOk_mask x 864 832 rfl (by norm_num) _ _ _ _ _ _ _ _ _ _ causal (fun j d => (key_read _ harg5 x3 864 (by norm_num) _ _ j d).trans (H.k _ _)) (fun i d => (query_read _ harg4 x2 832 (by norm_num) _ _ _ i d).trans (H.q _ _ _)) H.s (fun j l => (bias_read _ _ _ _ 864 (by norm_num) _ j l).trans (H.b _ _))) _ _ _ _ _ _ _ _ _) 53 rfl _ z
  refine List.forall_mem_cons.2 ⟨?_, ?_⟩
  · intro z
    dsimp only
    exact s0_piece (t0 := 832) (ht := by norm_num) (statOk (logOk_mask x 864 832 rfl (by norm_num) _ _ _ _ _ _ _ _ _ _ causal (fun j d => (key_read _ harg5 x3 864 (by norm_num) _ _ j d).trans (H.k _ _)) (fun i d => (query_read _ harg4 x2 832 (by norm_num) _ _ _ i d).trans (H.q _ _ _)) H.s (fun j l => (bias_read _ _ _ _ 864 (by norm_num) _ j l).trans (H.b _ _))) _ _ _ _ _ _ _ _ _) 52 rfl _ z
  refine List.forall_mem_cons.2 ⟨?_, ?_⟩
  · intro z
    dsimp only
    exact s1_piece (t0 := 800) (ht := by norm_num) (statOk (logOk_mask x 832 800 rfl (by norm_num) _ _ _ _ _ _ _ _ _ _ causal (fun j d => (key_read _ harg5 x3 832 (by norm_num) _ _ j d).trans (H.k _ _)) (fun i d => (query_read _ harg4 x2 800 (by norm_num) _ _ _ i d).trans (H.q _ _ _)) H.s (fun j l => (bias_read _ _ _ _ 832 (by norm_num) _ j l).trans (H.b _ _))) _ _ _ _ _ _ _ _ _) 51 rfl _ z
  refine List.forall_mem_cons.2 ⟨?_, ?_⟩
  · intro z
    dsimp only
    exact s0_piece (t0 := 800) (ht := by norm_num) (statOk (logOk_mask x 832 800 rfl (by norm_num) _ _ _ _ _ _ _ _ _ _ causal (fun j d => (key_read _ harg5 x3 832 (by norm_num) _ _ j d).trans (H.k _ _)) (fun i d => (query_read _ harg4 x2 800 (by norm_num) _ _ _ i d).trans (H.q _ _ _)) H.s (fun j l => (bias_read _ _ _ _ 832 (by norm_num) _ j l).trans (H.b _ _))) _ _ _ _ _ _ _ _ _) 50 rfl _ z
  refine List.forall_mem_cons.2 ⟨?_, ?_⟩
  · intro z
    dsimp only
    exact s1_piece (t0 := 768) (ht := by norm_num) (statOk (logOk_mask x 800 768 rfl (by norm_num) _ _ _ _ _ _ _ _ _ _ causal (fun j d => (key_read _ harg5 x3 800 (by norm_num) _ _ j d).trans (H.k _ _)) (fun i d => (query_read _ harg4 x2 768 (by norm_num) _ _ _ i d).trans (H.q _ _ _)) H.s (fun j l => (bias_read _ _ _ _ 800 (by norm_num) _ j l).trans (H.b _ _))) _ _ _ _ _ _ _ _ _) 49 rfl _ z
  refine List.forall_mem_cons.2 ⟨?_, ?_⟩
  · intro z
    dsimp only
    exact s0_piece (t0 := 768) (ht := by norm_num) (statOk (logOk_mask x 800 768 rfl (by norm_num) _ _ _ _ _ _ _ _ _ _ causal (fun j d => (key_read _ harg5 x3 800 (by norm_num) _ _ j d).trans (H.k _ _)) (fun i d => (query_read _ harg4 x2 768 (by norm_num) _ _ _ i d).trans (H.q _ _ _)) H.s (fun j l => (bias_read _ _ _ _ 800 (by norm_num) _ j l).trans (H.b _ _))) _ _ _ _ _ _ _ _ _) 48 rfl _ z
  refine List.forall_mem_cons.2 ⟨?_, ?_⟩
  · intro z
    dsimp only
    exact s1_piece (t0 := 736) (ht := by norm_num) (statOk (logOk_mask x 768 736 rfl (by norm_num) _ _ _ _ _ _ _ _ _ _ causal (fun j d => (key_read _ harg5 x3 768 (by norm_num) _ _ j d).trans (H.k _ _)) (fun i d => (query_read _ harg4 x2 736 (by norm_num) _ _ _ i d).trans (H.q _ _ _)) H.s (fun j l => (bias_read _ _ _ _ 768 (by norm_num) _ j l).trans (H.b _ _))) _ _ _ _ _ _ _ _ _) 47 rfl _ z
  refine List.forall_mem_cons.2 ⟨?_, ?_⟩
  · intro z
    dsimp only
    exact s0_piece (t0 := 736) (ht := by norm_num) (statOk (logOk_mask x 768 736 rfl (by norm_num) _ _ _ _ _ _ _ _ _ _ causal (fun j d => (key_read _ harg5 x3 768 (by norm_num) _ _ j d).trans (H.k _ _)) (fun i d => (query_read _ harg4 x2 736 (by norm_num) _ _ _ i d).trans (H.q _ _ _)) H.s (fun j l => (bias_read _ _ _ _ 768 (by norm_num) _ j l).trans (H.b _ _))) _ _ _ _ _ _ _ _ _) 46 rfl _ z
  refine List.forall_mem_cons.2 ⟨?_, ?_⟩
  · intro z
    dsimp only
    exact s1_piece (t0 := 704) (ht := by norm_num) (statOk (logOk_mask x 736 704 rfl (by norm_num) _ _ _ _ _ _ _ _ _ _ causal (fun j d => (key_read _ harg5 x3 736 (by norm_num) _ _ j d).trans (H.k _ _)) (fun i d => (query_read _ harg4 x2 704 (by norm_num) _ _ _ i d).trans (H.q _ _ _)) H.s (fun j l => (bias_read _ _ _ _ 736 (by norm_num) _ j l).trans (H.b _ _))) _ _ _ _ _ _ _ _ _) 45 rfl _ z
  refine List.forall_mem_cons.2 ⟨?_, ?_⟩
  · intro z
    dsimp only
    exact s0_piece (t0 := 704) (ht := by norm_num) (statOk (logOk_mask x 736 704 rfl (by norm_num) _ _ _ _ _ _ _ _ _ _ causal (fun j d => (key_read _ harg5 x3 736 (by norm_num) _ _ j d).trans (H.k _ _)) (fun i d => (query_read _ harg4 x2 704 (by norm_num) _ _ _ i d).trans (H.q _ _ _)) H.s (fun j l => (bias_read _ _ _ _ 736 (by norm_num) _ j l).trans (H.b _ _))) _ _ _ _ _ _ _ _ _) 44 rfl _ z
  refine List.forall_mem_cons.2 ⟨?_, ?_⟩
  · intro z
    dsimp only
    exact s1_piece (t0 := 672) (ht := by norm_num) (statOk (logOk_mask x 704 672 rfl (by norm_num) _ _ _ _ _ _ _ _ _ _ causal (fun j d => (key_read _ harg5 x3 704 (by norm_num) _ _ j d).trans (H.k _ _)) (fun i d => (query_read _ harg4 x2 672 (by norm_num) _ _ _ i d).trans (H.q _ _ _)) H.s (fun j l => (bias_read _ _ _ _ 704 (by norm_num) _ j l).trans (H.b _ _))) _ _ _ _ _ _ _ _ _) 43 rfl _ z
  refine List.forall_mem_cons.2 ⟨?_, ?_⟩
  · intro z
    dsimp only
    exact s0_piece (t0 := 672) (ht := by norm_num) (statOk (logOk_mask x 704 672 rfl (by norm_num) _ _ _ _ _ _ _ _ _ _ causal (fun j d => (key_read _ harg5 x3 704 (by norm_num) _ _ j d).trans (H.k _ _)) (fun i d => (query_read _ harg4 x2 672 (by norm_num) _ _ _ i d).trans (H.q _ _ _)) H.s (fun j l => (bias_read _ _ _ _ 704 (by norm_num) _ j l).trans (H.b _ _))) _ _ _ _ _ _ _ _ _) 42 rfl _ z
  refine List.forall_mem_cons.2 ⟨?_, ?_⟩
  · intro z
    dsimp only
    exact s1_piece (t0 := 640) (ht := by norm_num) (statOk (logOk_mask x 672 640 rfl (by norm_num) _ _ _ _ _ _ _ _ _ _ causal (fun j d => (key_read _ harg5 x3 672 (by norm_num) _ _ j d).trans (H.k _ _)) (fun i d => (query_read _ harg4 x2 640 (by norm_num) _ _ _ i d).trans (H.q _ _ _)) H.s (fun j l => (bias_read _ _ _ _ 672 (by norm_num) _ j l).trans (H.b _ _))) _ _ _ _ _ _ _ _ _) 41 rfl _ z
  refine List.forall_mem_cons.2 ⟨?_, ?_⟩
  · intro z
    dsimp only
    exact s0_piece (t0 := 640) (ht := by norm_num) (statOk (logOk_mask x 672 640 rfl (by norm_num) _ _ _ _ _ _ _ _ _ _ causal (fun j d => (key_read _ harg5 x3 672 (by norm_num) _ _ j d).trans (H.k _ _)) (fun i d => (query_read _ harg4 x2 640 (by norm_num) _ _ _ i d).trans (H.q _ _ _)) H.s (fun j l => (bias_read _ _ _ _ 672 (by norm_num) _ j l).trans (H.b _ _))) _ _ _ _ _ _ _ _ _) 40 rfl _ z
  refine List.forall_mem_cons.2 ⟨?_, ?_⟩
  · intro z
    dsimp only
    exact s1_piece (t0 := 608) (ht := by norm_num) (statOk (logOk_mask x 640 608 rfl (by norm_num) _ _ _ _ _ _ _ _ _ _ causal (fun j d => (key_read _ harg5 x3 640 (by norm_num) _ _ j d).trans (H.k _ _)) (fun i d => (query_read _ harg4 x2 608 (by norm_num) _ _ _ i d).trans (H.q _ _ _)) H.s (fun j l => (bias_read _ _ _ _ 640 (by norm_num) _ j l).trans (H.b _ _))) _ _ _ _ _ _ _ _ _) 39 rfl _ z
  refine List.forall_mem_cons.2 ⟨?_, ?_⟩
  · intro z
    dsimp only
    exact s0_piece (t0 := 608) (ht := by norm_num) (statOk (logOk_mask x 640 608 rfl (by norm_num) _ _ _ _ _ _ _ _ _ _ causal (fun j d => (key_read _ harg5 x3 640 (by norm_num) _ _ j d).trans (H.k _ _)) (fun i d => (query_read _ harg4 x2 608 (by norm_num) _ _ _ i d).trans (H.q _ _ _)) H.s (fun j l => (bias_read _ _ _ _ 640 (by norm_num) _ j l).trans (H.b _ _))) _ _ _ _ _ _ _ _ _) 38 rfl _ z
  refine List.forall_mem_cons.2 ⟨?_, ?_⟩
  · intro z
    dsimp only
    exact s1_piece (t0 := 576) (ht := by norm_num) (statOk (logOk_mask x 608 576 rfl (by norm_num) _ _ _ _ _ _ _ _ _ _ causal (fun j d => (key_read _ harg5 x3 608 (by norm_num) _ _ j d).trans (H.k _ _)) (fun i d => (query_read _ harg4 x2 576 (by norm_num) _ _ _ i d).trans (H.q _ _ _)) H.s (fun j l => (bias_read _ _ _ _ 608 (by norm_num) _ j l).trans (H.b _ _))) _ _ _ _ _ _ _ _ _) 37 rfl _ z
  refine List.forall_mem_cons.2 ⟨?_, ?_⟩
  · intro z
    dsimp only
    exact s0_piece (t0 := 576) (ht := by norm_num) (statOk (logOk_mask x 608 576 rfl (by norm_num) _ _ _ _ _ _ _ _ _ _ causal (fun j d => (key_read _ harg5 x3 608 (by norm_num) _ _ j d).trans (H.k _ _)) (fun i d => (query_read _ harg4 x2 576 (by norm_num) _ _ _ i d).trans (H.q _ _ _)) H.s (fun j l => (bias_read _ _ _ _ 608 (by norm_num) _ j l).trans (H.b _ _))) _ _ _ _ _ _ _ _ _) 36 rfl _ z
  refine List.forall_mem_cons.2 ⟨?_, ?_⟩
  · intro z
    dsimp only
    exact s1_piece (t0 := 544) (ht := by norm_num) (statOk (logOk_mask x 576 544 rfl (by norm_num) _ _ _ _ _ _ _ _ _ _ causal (fun j d => (key_read _ harg5 x3 576 (by norm_num) _ _ j d).trans (H.k _ _)) (fun i d => (query_read _ harg4 x2 544 (by norm_num) _ _ _ i d).trans (H.q _ _ _)) H.s (fun j l => (bias_read _ _ _ _ 576 (by norm_num) _ j l).trans (H.b _ _))) _ _ _ _ _ _ _ _ _) 35 rfl _ z
  refine List.forall_mem_cons.2 ⟨?_, ?_⟩
  · intro z
    dsimp only
    exact s0_piece (t0 := 544) (ht := by norm_num) (statOk (logOk_mask x 576 544 rfl (by norm_num) _ _ _ _ _ _ _ _ _ _ causal (fun j d => (key_read _ harg5 x3 576 (by norm_num) _ _ j d).trans (H.k _ _)) (fun i d => (query_read _ harg4 x2 544 (by norm_num) _ _ _ i d).trans (H.q _ _ _)) H.s (fun j l => (bias_read _ _ _ _ 576 (by norm_num) _ j l).trans (H.b _ _))) _ _ _ _ _ _ _ _ _) 34 rfl _ z
  refine List.forall_mem_cons.2 ⟨?_, ?_⟩
  · intro z
    dsimp only
    exact s1_piece (t0 := 512) (ht := by norm_num) (statOk (logOk_mask x 544 512 rfl (by norm_num) _ _ _ _ _ _ _ _ _ _ causal (fun j d => (key_read _ harg5 x3 544 (by norm_num) _ _ j d).trans (H.k _ _)) (fun i d => (query_read _ harg4 x2 512 (by norm_num) _ _ _ i d).trans (H.q _ _ _)) H.s (fun j l => (bias_read _ _ _ _ 544 (by norm_num) _ j l).trans (H.b _ _))) _ _ _ _ _ _ _ _ _) 33 rfl _ z
  refine List.forall_mem_cons.2 ⟨?_, ?_⟩
  · intro z
    dsimp only
    exact s0_piece (t0 := 512) (ht := by norm_num) (statOk (logOk_mask x 544 512 rfl (by norm_num) _ _ _ _ _ _ _ _ _ _ causal (fun j d => (key_read _ harg5 x3 544 (by norm_num) _ _ j d).trans (H.k _ _)) (fun i d => (query_read _ harg4 x2 512 (by norm_num) _ _ _ i d).trans (H.q _ _ _)) H.s (fun j l => (bias_read _ _ _ _ 544 (by norm_num) _ j l).trans (H.b _ _))) _ _ _ _ _ _ _ _ _) 32 rfl _ z
  refine List.forall_mem_cons.2 ⟨?_, ?_⟩
  · intro z
    dsimp only
    exact s1_piece (t0 := 480) (ht := by norm_num) (statOk (logOk_mask x 512 480 rfl (by norm_num) _ _ _ _ _ _ _ _ _ _ causal (fun j d => (key_read _ harg5 x3 512 (by norm_num) _ _ j d).trans (H.k _ _)) (fun i d => (query_read _ harg4 x2 480 (by norm_num) _ _ _ i d).trans (H.q _ _ _)) H.s (fun j l => (bias_read _ _ _ _ 512 (by norm_num) _ j l).trans (H.b _ _))) _ _ _ _ _ _ _ _ _) 31 rfl _ z
  refine List.forall_mem_cons.2 ⟨?_, ?_⟩
  · intro z
    dsimp only
    exact s0_piece (t0 := 480) (ht := by norm_num) (statOk (logOk_mask x 512 480 rfl (by norm_num) _ _ _ _ _ _ _ _ _ _ causal (fun j d => (key_read _ harg5 x3 512 (by norm_num) _ _ j d).trans (H.k _ _)) (fun i d => (query_read _ harg4 x2 480 (by norm_num) _ _ _ i d).trans (H.q _ _ _)) H.s (fun j l => (bias_read _ _ _ _ 512 (by norm_num) _ j l).trans (H.b _ _))) _ _ _ _ _ _ _ _ _) 30 rfl _ z
  refine List.forall_mem_cons.2 ⟨?_, ?_⟩
  · intro z
    dsimp only
    exact s1_piece (t0 := 448) (ht := by norm_num) (statOk (logOk_mask x 480 448 rfl (by norm_num) _ _ _ _ _ _ _ _ _ _ causal (fun j d => (key_read _ harg5 x3 480 (by norm_num) _ _ j d).trans (H.k _ _)) (fun i d => (query_read _ harg4 x2 448 (by norm_num) _ _ _ i d).trans (H.q _ _ _)) H.s (fun j l => (bias_read _ _ _ _ 480 (by norm_num) _ j l).trans (H.b _ _))) _ _ _ _ _ _ _ _ _) 29 rfl _ z
  refine List.forall_mem_cons.2 ⟨?_, ?_⟩
  · intro z
    dsimp only
    exact s0_piece (t0 := 448) (ht := by norm_num) (statOk (logOk_mask x 480 448 rfl (by norm_num) _ _ _ _ _ _ _ _ _ _ causal (fun j d => (key_read _ harg5 x3 480 (by norm_num) _ _ j d).trans (H.k _ _)) (fun i d => (query_read _ harg4 x2 448 (by norm_num) _ _ _ i d).trans (H.q _ _ _)) H.s (fun j l => (bias_read _ _ _ _ 480 (by norm_num) _ j l).trans (H.b _ _))) _ _ _ _ _ _ _ _ _) 28 rfl _ z
  refine List.forall_mem_cons.2 ⟨?_, ?_⟩
  · intro z
    dsimp only
    exact s1_piece (t0 := 416) (ht := by norm_num) (statOk (logOk_mask x 448 416 rfl (by norm_num) _ _ _ _ _ _ _ _ _ _ causal (fun j d => (key_read _ harg5 x3 448 (by norm_num) _ _ j d).trans (H.k _ _)) (fun i d => (query_read _ harg4 x2 416 (by norm_num) _ _ _ i d).trans (H.q _ _ _)) H.s (fun j l => (bias_read _ _ _ _ 448 (by norm_num) _ j l).trans (H.b _ _))) _ _ _ _ _ _ _ _ _) 27 rfl _ z
  refine List.forall_mem_cons.2 ⟨?_, ?_⟩
  · intro z
    dsimp only
    exact s0_piece (t0 := 416) (ht := by norm_num) (statOk (logOk_mask x 448 416 rfl (by norm_num) _ _ _ _ _ _ _ _ _ _ causal (fun j d => (key_read _ harg5 x3 448 (by norm_num) _ _ j d).trans (H.k _ _)) (fun i d => (query_read _ harg4 x2 416 (by norm_num) _ _ _ i d).trans (H.q _ _ _)) H.s (fun j l => (bias_read _ _ _ _ 448 (by norm_num) _ j l).trans (H.b _ _))) _ _ _ _ _ _ _ _ _) 26 rfl _ z
  refine List.forall_mem_cons.2 ⟨?_, ?_⟩
  · intro z
    dsimp only
    exact s1_piece (t0 := 384) (ht := by norm_num) (statOk (logOk_mask x 416 384 rfl (by norm_num) _ _ _ _ _ _ _ _ _ _ causal (fun j d => (key_read _ harg5 x3 416 (by norm_num) _ _ j d).trans (H.k _ _)) (fun i d => (query_read _ harg4 x2 384 (by norm_num) _ _ _ i d).trans (H.q _ _ _)) H.s (fun j l => (bias_read _ _ _ _ 416 (by norm_num) _ j l).trans (H.b _ _))) _ _ _ _ _ _ _ _ _) 25 rfl _ z
  refine List.forall_mem_cons.2 ⟨?_, ?_⟩
  · intro z
    dsimp only
    exact s0_piece (t0 := 384) (ht := by norm_num) (statOk (logOk_mask x 416 384 rfl (by norm_num) _ _ _ _ _ _ _ _ _ _ causal (fun j d => (key_read _ harg5 x3 416 (by norm_num) _ _ j d).trans (H.k _ _)) (fun i d => (query_read _ harg4 x2 384 (by norm_num) _ _ _ i d).trans (H.q _ _ _)) H.s (fun j l => (bias_read _ _ _ _ 416 (by norm_num) _ j l).trans (H.b _ _))) _ _ _ _ _ _ _ _ _) 24 rfl _ z
  refine List.forall_mem_cons.2 ⟨?_, ?_⟩
  · intro z
    dsimp only
    exact s1_piece (t0 := 352) (ht := by norm_num) (statOk (logOk_mask x 384 352 rfl (by norm_num) _ _ _ _ _ _ _ _ _ _ causal (fun j d => (key_read _ harg5 x3 384 (by norm_num) _ _ j d).trans (H.k _ _)) (fun i d => (query_read _ harg4 x2 352 (by norm_num) _ _ _ i d).trans (H.q _ _ _)) H.s (fun j l => (bias_read _ _ _ _ 384 (by norm_num) _ j l).trans (H.b _ _))) _ _ _ _ _ _ _ _ _) 23 rfl _ z
  refine List.forall_mem_cons.2 ⟨?_, ?_⟩
  · intro z
    dsimp only
    exact s0_piece (t0 := 352) (ht := by norm_num) (statOk (logOk_mask x 384 352 rfl (by norm_num) _ _ _ _ _ _ _ _ _ _ causal (fun j d => (key_read _ harg5 x3 384 (by norm_num) _ _ j d).trans (H.k _ _)) (fun i d => (query_read _ harg4 x2 352 (by norm_num) _ _ _ i d).trans (H.q _ _ _)) H.s (fun j l => (bias_read _ _ _ _ 384 (by norm_num) _ j l).trans (H.b _ _))) _ _ _ _ _ _ _ _ _) 22 rfl _ z
  refine List.forall_mem_cons.2 ⟨?_, ?_⟩
  · intro z
    dsimp only
    exact s1_piece (t0 := 320) (ht := by norm_num) (statOk (logOk_mask x 352 320 rfl (by norm_num) _ _ _ _ _ _ _ _ _ _ causal (fun j d => (key_read _ harg5 x3 352 (by norm_num) _ _ j d).trans (H.k _ _)) (fun i d => (query_read _ harg4 x2 320 (by norm_num) _ _ _ i d).trans (H.q _ _ _)) H.s (fun j l => (bias_read _ _ _ _ 352 (by norm_num) _ j l).trans (H.b _ _))) _ _ _ _ _ _ _ _ _) 21 rfl _ z
  refine List.forall_mem_cons.2 ⟨?_, ?_⟩
  · intro z
    dsimp only
    exact s0_piece (t0 := 320) (ht := by norm_num) (statOk (logOk_mask x 352 320 rfl (by norm_num) _ _ _ _ _ _ _ _ _ _ causal (fun j d => (key_read _ harg5 x3 352 (by norm_num) _ _ j d).trans (H.k _ _)) (fun i d => (query_read _ harg4 x2 320 (by norm_num) _ _ _ i d).trans (H.q _ _ _)) H.s (fun j l => (bias_read _ _ _ _ 352 (by norm_num) _ j l).trans (H.b _ _))) _ _ _ _ _ _ _ _ _) 20 rfl _ z
  refine List.forall_mem_cons.2 ⟨?_, ?_⟩
  · intro z
    dsimp only
    exact s1_piece (t0 := 288) (ht := by norm_num) (statOk (logOk_mask x 320 288 rfl (by norm_num) _ _ _ _ _ _ _ _ _ _ causal (fun j d => (key_read _ harg5 x3 320 (by norm_num) _ _ j d).trans (H.k _ _)) (fun i d => (query_read _ harg4 x2 288 (by norm_num) _ _ _ i d).trans (H.q _ _ _)) H.s (fun j l => (bias_read _ _ _ _ 320 (by norm_num) _ j l).trans (H.b _ _))) _ _ _ _ _ _ _ _ _) 19 rfl _ z
  refine List.forall_mem_cons.2 ⟨?_, ?_⟩
  · intro z
    dsimp only
    exact s0_piece (t0 := 288) (ht := by norm_num) (statOk (logOk_mask x 320 288 rfl (by norm_num) _ _ _ _ _ _ _ _ _ _ causal (fun j d => (key_read _ harg5 x3 320 (by norm_num) _ _ j d).trans (H.k _ _)) (fun i d => (query_read _ harg4 x2 288 (by norm_num) _ _ _ i d).trans (H.q _ _ _)) H.s (fun j l => (bias_read _ _ _ _ 320 (by norm_num) _ j l).trans (H.b _ _))) _ _ _ _ _ _ _ _ _) 18 rfl _ z
  refine List.forall_mem_cons.2 ⟨?_, ?_⟩
  · intro z
    dsimp only
    exact s1_piece (t0 := 256) (ht := by norm_num) (statOk (logOk_mask x 288 256 rfl (by norm_num) _ _ _ _ _ _ _ _ _ _ causal (fun j d => (key_read _ harg5 x3 288 (by norm_num) _ _ j d).trans (H.k _ _)) (fun i d => (query_read _ harg4 x2 256 (by norm_num) _ _ _ i d).trans (H.q _ _ _)) H.s (fun j l => (bias_read _ _ _ _ 288 (by norm_num) _ j l).trans (H.b _ _))) _ _ _ _ _ _ _ _ _) 17 rfl _ z
  refine List.forall_mem_cons.2 ⟨?_, ?_⟩
  · intro z
    dsimp only
    exact s0_piece (t0 := 256) (ht := by norm_num) (statOk (logOk_mask x 288 256 rfl (by norm_num) _ _ _ _ _ _ _ _ _ _ causal (fun j d => (key_read _ harg5 x3 288 (by norm_num) _ _ j d).trans (H.k _ _)) (fun i d => (query_read _ harg4 x2 256 (by norm_num) _ _ _ i d).trans (H.q _ _ _)) H.s (fun j l => (bias_read _ _ _ _ 288 (by norm_num) _ j l).trans (H.b _ _))) _ _ _ _ _ _ _ _ _) 16 rfl _ z
  refine List.forall_mem_cons.2 ⟨?_, ?_⟩
  · intro z
    dsimp only
    exact s1_piece (t0 := 224) (ht := by norm_num) (statOk (logOk_mask x 256 224 rfl (by norm_num) _ _ _ _ _ _ _ _ _ _ causal (fun j d => (key_read _ harg5 x3 256 (by norm_num) _ _ j d).trans (H.k _ _)) (fun i d => (query_read _ harg4 x2 224 (by norm_num) _ _ _ i d).trans (H.q _ _ _)) H.s (fun j l => (bias_read _ _ _ _ 256 (by norm_num) _ j l).trans (H.b _ _))) _ _ _ _ _ _ _ _ _) 15 rfl _ z
  refine List.forall_mem_cons.2 ⟨?_, ?_⟩
  · intro z
    dsimp only
    exact s0_piece (t0 := 224) (ht := by norm_num) (statOk (logOk_mask x 256 224 rfl (by norm_num) _ _ _ _ _ _ _ _ _ _ causal (fun j d => (key_read _ harg5 x3 256 (by norm_num) _ _ j d).trans (H.k _ _)) (fun i d => (query_read _ harg4 x2 224 (by norm_num) _ _ _ i d).trans (H.q _ _ _)) H.s (fun j l => (bias_read _ _ _ _ 256 (by norm_num) _ j l).trans (H.b _ _))) _ _ _ _ _ _ _ _ _) 14 rfl _ z
  refine List.forall_mem_cons.2 ⟨?_, ?_⟩
  · intro z
    dsimp only
    exact s1_piece (t0 := 192) (ht := by norm_num) (statOk (logOk_mask x 224 192 rfl (by norm_num) _ _ _ _ _ _ _ _ _ _ causal (fun j d => (key_read _ harg5 x3 224 (by norm_num) _ _ j d).trans (H.k _ _)) (fun i d => (query_read _ harg4 x2 192 (by norm_num) _ _ _ i d).trans (H.q _ _ _)) H.s (fun j l => (bias_read _ _ _ _ 224 (by norm_num) _ j l).trans (H.b _ _))) _ _ _ _ _ _ _ _ _) 13 rfl _ z
  refine List.forall_mem_cons.2 ⟨?_, ?_⟩
  · intro z
    dsimp only
    exact s0_piece (t0 := 192) (ht := by norm_num) (statOk (logOk_mask x 224 192 rfl (by norm_num) _ _ _ _ _ _ _ _ _ _ causal (fun j d => (key_read _ harg5 x3 224 (by norm_num) _ _ j d).trans (H.k _ _)) (fun i d => (query_read _ harg4 x2 192 (by norm_num) _ _ _ i d).trans (H.q _ _ _)) H.s (fun j l => (bias_read _ _ _ _ 224 (by norm_num) _ j l).trans (H.b _ _))) _ _ _ _ _ _ _ _ _) 12 rfl _ z
  refine List.forall_mem_cons.2 ⟨?_, ?_⟩
  · intro z
    dsimp only
    exact s1_piece (t0 := 160) (ht := by norm_num) (statOk (logOk_mask x 192 160 rfl (by norm_num) _ _ _ _ _ _ _ _ _ _ causal (fun j d => (key_read _ harg5 x3 192 (by norm_num) _ _ j d).trans (H.k _ _)) (fun i d => (query_read _ harg4 x2 160 (by norm_num) _ _ _ i d).trans (H.q _ _ _)) H.s (fun j l => (bias_read _ _ _ _ 192 (by norm_num) _ j l).trans (H.b _ _))) _ _ _ _ _ _ _ _ _) 11 rfl _ z
  refine List.forall_mem_cons.2 ⟨?_, ?_⟩
  · intro z
    dsimp only
    exact s0_piece (t0 := 160) (ht := by norm_num) (statOk (logOk_mask x 192 160 rfl (by norm_num) _ _ _ _ _ _ _ _ _ _ causal (fun j d => (key_read _ harg5 x3 192 (by norm_num) _ _ j d).trans (H.k _ _)) (fun i d => (query_read _ harg4 x2 160 (by norm_num) _ _ _ i d).trans (H.q _ _ _)) H.s (fun j l => (bias_read _ _ _ _ 192 (by norm_num) _ j l).trans (H.b _ _))) _ _ _ _ _ _ _ _ _) 10 rfl _ z
  refine List.forall_mem_cons.2 ⟨?_, ?_⟩
  · intro z
    dsimp only
    exact s1_piece (t0 := 128) (ht := by norm_num) (statOk (logOk_mask x 160 128 rfl (by norm_num) _ _ _ _ _ _ _ _ _ _ causal (fun j d => (key_read _ harg5 x3 160 (by norm_num) _ _ j d).trans (H.k _ _)) (fun i d => (query_read _ harg4 x2 128 (by norm_num) _ _ _ i d).trans (H.q _ _ _)) H.s (fun j l => (bias_read _ _ _ _ 160 (by norm_num) _ j l).trans (H.b _ _))) _ _ _ _ _ _ _ _ _) 9 rfl _ z
  refine List.forall_mem_cons.2 ⟨?_, ?_⟩
  · intro z
    dsimp only
    exact s0_piece (t0 := 128) (ht := by norm_num) (statOk (logOk_mask x 160 128 rfl (by norm_num) _ _ _ _ _ _ _ _ _ _ causal (fun j d => (key_read _ harg5 x3 160 (by norm_num) _ _ j d).trans (H.k _ _)) (fun i d => (query_read _ harg4 x2 128 (by norm_num) _ _ _ i d).trans (H.q _ _ _)) H.s (fun j l => (bias_read _ _ _ _ 160 (by norm_num) _ j l).trans (H.b _ _))) _ _ _ _ _ _ _ _ _) 8 rfl _ z
  refine List.forall_mem_cons.2 ⟨?_, ?_⟩
  · intro z
    dsimp only
    exact s1_piece (t0 := 96) (ht := by norm_num) (statOk (logOk_mask x 128 96 rfl (by norm_num) _ _ _ _ _ _ _ _ _ _ causal (fun j d => (key_read _ harg5 x3 128 (by norm_num) _ _ j d).trans (H.k _ _)) (fun i d => (query_read _ harg4 x2 96 (by norm_num) _ _ _ i d).trans (H.q _ _ _)) H.s (fun j l => (bias_read _ _ _ _ 128 (by norm_num) _ j l).trans (H.b _ _))) _ _ _ _ _ _ _ _ _) 7 rfl _ z
  refine List.forall_mem_cons.2 ⟨?_, ?_⟩
  · intro z
    dsimp only
    exact s0_piece (t0 := 96) (ht := by norm_num) (statOk (logOk_mask x 128 96 rfl (by norm_num) _ _ _ _ _ _ _ _ _ _ causal (fun j d => (key_read _ harg5 x3 128 (by norm_num) _ _ j d).trans (H.k _ _)) (fun i d => (query_read _ harg4 x2 96 (by norm_num) _ _ _ i d).trans (H.q _ _ _)) H.s (fun j l => (bias_read _ _ _ _ 128 (by norm_num) _ j l).trans (H.b _ _))) _ _ _ _ _ _ _ _ _) 6 rfl _ z
  refine List.forall_mem_cons.2 ⟨?_, ?_⟩
  · intro z
    dsimp only
    exact s1_piece (t0 := 64) (ht := by norm_num) (statOk (logOk_mask x 96 64 rfl (by norm_num) _ _ _ _ _ _ _ _ _ _ causal (fun j d => (key_read _ harg5 x3 96 (by norm_num) _ _ j d).trans (H.k _ _)) (fun i d => (query_read _ harg4 x2 64 (by norm_num) _ _ _ i d).trans (H.q _ _ _)) H.s (fun j l => (bias_read _ _ _ _ 96 (by norm_num) _ j l).trans (H.b _ _))) _ _ _ _ _ _ _ _ _) 5 rfl _ z
  refine List.forall_mem_cons.2 ⟨?_, ?_⟩
  · intro z
    dsimp only
    exact s0_piece (t0 := 64) (ht := by norm_num) (statOk (logOk_mask x 96 64 rfl (by norm_num) _ _ _ _ _ _ _ _ _ _ causal (fun j d => (key_read _ harg5 x3 96 (by norm_num) _ _ j d).trans (H.k _ _)) (fun i d => (query_read _ harg4 x2 64 (by norm_num) _ _ _ i d).trans (H.q _ _ _)) H.s (fun j l => (bias_read _ _ _ _ 96 (by norm_num) _ j l).trans (H.b _ _))) _ _ _ _ _ _ _ _ _) 4 rfl _ z
  refine List.forall_mem_cons.2 ⟨?_, ?_⟩
  · intro z
    dsimp only
    exact s1_piece (t0 := 32) (ht := by norm_num) (statOk (logOk_mask x 64 32 rfl (by norm_num) _ _ _ _ _ _ _ _ _ _ causal (fun j d => (key_read _ harg5 x3 64 (by norm_num) _ _ j d).trans (H.k _ _)) (fun i d => (query_read _ harg4 x2 32 (by norm_num) _ _ _ i d).trans (H.q _ _ _)) H.s (fun j l => (bias_read _ _ _ _ 64 (by norm_num) _ j l).trans (H.b _ _))) _ _ _ _ _ _ _ _ _) 3 rfl _ z
  refine List.forall_mem_cons.2 ⟨?_, ?_⟩
  · intro z
    dsimp only
    exact s0_piece (t0 := 32) (ht := by norm_num) (statOk (logOk_mask x 64 32 rfl (by norm_num) _ _ _ _ _ _ _ _ _ _ causal (fun j d => (key_read _ harg5 x3 64 (by norm_num) _ _ j d).trans (H.k _ _)) (fun i d => (query_read _ harg4 x2 32 (by norm_num) _ _ _ i d).trans (H.q _ _ _)) H.s (fun j l => (bias_read _ _ _ _ 64 (by norm_num) _ j l).trans (H.b _ _))) _ _ _ _ _ _ _ _ _) 2 rfl _ z
  refine List.forall_mem_cons.2 ⟨?_, ?_⟩
  · intro z
    dsimp only
    exact s1_piece (t0 := 0) (ht := by norm_num) (statOk (logOk_mask0 x 32 0 _ _ _ _ _ _ _ causal (fun j d => (key_read _ harg5 x3 32 (by norm_num) _ _ j d).trans (H.k _ _)) (fun i d => (query_read _ harg4 x2 0 (by norm_num) _ _ _ i d).trans (H.q _ _ _)) H.s (fun j l => (bias_read _ _ _ _ 32 (by norm_num) _ j l).trans (H.b _ _))) _ _ _ _ _ _ _ _ _) 1 rfl _ z
  refine List.forall_mem_cons.2 ⟨?_, ?_⟩
  · intro z
    dsimp only
    exact s0_piece (t0 := 0) (ht := by norm_num) (statOk (logOk_mask0 x 32 0 _ _ _ _ _ _ _ causal (fun j d => (key_read _ harg5 x3 32 (by norm_num) _ _ j d).trans (H.k _ _)) (fun i d => (query_read _ harg4 x2 0 (by norm_num) _ _ _ i d).trans (H.q _ _ _)) H.s (fun j l => (bias_read _ _ _ _ 32 (by norm_num) _ j l).trans (H.b _ _))) _ _ _ _ _ _ _ _ _) 0 rfl _ z
  exact fun p hp => absurd hp List.not_mem_nil

/-- The statistics array, read whole. -/
theorem s_read (H : Base c i arg2 harg2 arg3 harg3 arg6 harg6 arg7 harg7 arg8 harg8 x0 x1 x2 x3 x4 x5 x6 x) (r : Fin 64) (l : Fin 128) : (kernelRun0_A.sl.v3358 (F := Ideal) c i arg2 harg2 arg3 harg3 arg4 harg4 arg5 harg5 arg8 harg8 arg11 arg14 x0 x1 x2 x3 x6) (ix2 r l) = sG x (ix2 r l) := by
  have hc : ∀ y, ∃ p ∈ (kernelRun0_A.sl.HS3_64 (F := Ideal) c i arg2 harg2 arg3 harg3 arg4 harg4 arg5 harg5 arg8 harg8 arg11 x0 x1 x2 x3 x6), y ∈ p.1.set := View.cover_of_tiledL (kernelRun0_A.sl.HS3_64 (F := Ideal) c i arg2 harg2 arg3 harg3 arg4 harg4 arg5 harg5 arg8 harg8 arg11 x0 x1 x2 x3 x6) S1x128.size (by sl_kernel_rfl)
  have e := View.read_writes_apply_of_pieces (Val := Elt Ideal) (e := .f32) arg14.view arg14.view.junk (fun y : S64x128.Idx => sG x y) _ (s_list H) (ix2 r l) (hc _)
  refine Eq.trans ?_ e
  show View.read (Elt Ideal) arg14.view _ ((Rect.unit (s := S64x128) ![0, 0] S64x128.size inb_S64x128_S64x128_0_0).toLoadRect.idx (ix2 r l)) = _
  refine congrArg _ (funext fun a => Fin.ext ?_)
  fin_cases a
  · show 0 + 1 * r.val = r.val
    omega
  · show 0 + 1 * l.val = l.val
    omega

end Cert.Fox

end
-- ==== Proof.Spread.lean ====
module

public import proofs.«01_k».proof.Proof.Word

@[expose] public section

set_option maxRecDepth 16384

/-! # From the statistics array to the log-sum-exp rows

The statistics lie sixteen tokens of eight heads to a row. The kernel spreads each row over the heads' rows, picks every
token's column by a product with a zero-one matrix, and puts the rows back in base e. -/

noncomputable section

namespace Cert.Fox

open Idealize.ShloMosaic Idealize.ShloMosaic.TcCoe Cert.KernelIdeal Cert.KernelIdeal.Gen

/-- Whether a lane belongs to a head's row. -/
theorem head_mask (h : Fin 8) (l : Fin 128) :
    (cmpi .eq kernelRun0_A.sl.v3376 kernelRun0_A.sl.v3377) (ix2 h l) = if l.val % 8 = h.val then 1#1 else 0#1 := by
  show Scalar.cmpi .eq (kernelRun0_A.sl.v3376 (ix2 h l)) (kernelRun0_A.sl.v3377 (ix2 h l)) = _
  have e1 : kernelRun0_A.sl.v3376 (ix2 h l) = BitVec.ofNat 32 (l.val % 8) := by
    simp only [kernelRun0_A.sl.v3376, kernelRun0_A.sl.v3372, kernelRun0_A.sl.v3366, kernelRun0_A.sl.v3368, kernelRun0_A.sl.v3375, kernelRun0_A.sl.v3370,
      kernelRun0_A.sl.v3360, kernelRun0_A.sl.v3363, kernelRun0_A.sl.v3365]
    pointwise
    revert l
    decide +kernel
  have e2 : kernelRun0_A.sl.v3377 (ix2 h l) = BitVec.ofNat 32 h.val := by
    simp only [kernelRun0_A.sl.v3377]
    pointwise
  rw [e1, e2]
  revert h l
  decide +kernel

/-- One row of statistics, spread over the heads. -/
def blk (g q : ℕ) (hs : S8x8x128.Slices ![g, q, 0] S1x1x128) (h1 : S1x1x128.ShapeCasts S1x128) (h2 : S1x128.ShapeCasts S1x128) (h3 : S1x128.Broadcasts S8x128) (st : FVec Ideal S8x8x128 .f32) : FVec Ideal S8x128 .f32 :=
  select (cmpi .eq kernelRun0_A.sl.v3376 kernelRun0_A.sl.v3377)
    (broadcastTo S8x128 (shapeCast S1x128 (shapeCast S1x128 (extractStridedSlice S1x1x128 ![g, q, 0] st hs) h1) h2) h3) (broadcast S8x128 (FloatOps.ofBits .f32 0#32))

theorem blk_apply (g q : ℕ) (hg : g < 8) (hq : q < 8) (hs h1 h2 h3 st) (h : Fin 8) (l : Fin 128) :
    blk g q hs h1 h2 h3 st (ix2 h l) = if l.val % 8 = h.val then st (ix3 ⟨g, hg⟩ ⟨q, hq⟩ l) else 0 := by
  show Scalar.select ((cmpi .eq kernelRun0_A.sl.v3376 kernelRun0_A.sl.v3377) (ix2 h l)) _ _ = _
  rw [head_mask]
  have e : broadcastTo S8x128 (shapeCast S1x128 (shapeCast S1x128 (extractStridedSlice S1x1x128 ![g, q, 0] st hs) h1) h2) h3 (ix2 h l) = st (ix3 ⟨g, hg⟩ ⟨q, hq⟩ l) := by
    pointwise
  rw [e]
  split
  · rfl
  · show Ideal.ofBits .f32 0#32 = 0
    simp [Ideal.ofBits, Ideal.ieee]

/-- The eight rows of one group, side by side. -/
def grp (g : ℕ) (hs0 : S8x8x128.Slices ![g, 0, 0] S1x1x128) (hs1 : S8x8x128.Slices ![g, 1, 0] S1x1x128) (hs2 : S8x8x128.Slices ![g, 2, 0] S1x1x128) (hs3 : S8x8x128.Slices ![g, 3, 0] S1x1x128) (hs4 : S8x8x128.Slices ![g, 4, 0] S1x1x128) (hs5 : S8x8x128.Slices ![g, 5, 0] S1x1x128) (hs6 : S8x8x128.Slices ![g, 6, 0] S1x1x128) (hs7 : S8x8x128.Slices ![g, 7, 0] S1x1x128) (h1 : S1x1x128.ShapeCasts S1x128) (h2 : S1x128.ShapeCasts S1x128) (h3 : S1x128.Broadcasts S8x128)
    (hc : Shape.Concatenates [S8x128, S8x128, S8x128, S8x128, S8x128, S8x128, S8x128, S8x128] S8x1024 1) (st : FVec Ideal S8x8x128 .f32) : FVec Ideal S8x1024 .f32 :=
  concatenate S8x1024 1 [⟨S8x128, blk g 0 hs0 h1 h2 h3 st⟩, ⟨S8x128, blk g 1 hs1 h1 h2 h3 st⟩, ⟨S8x128, blk g 2 hs2 h1 h2 h3 st⟩, ⟨S8x128, blk g 3 hs3 h1 h2 h3 st⟩, ⟨S8x128, blk g 4 hs4 h1 h2 h3 st⟩, ⟨S8x128, blk g 5 hs5 h1 h2 h3 st⟩, ⟨S8x128, blk g 6 hs6 h1 h2 h3 st⟩, ⟨S8x128, blk g 7 hs7 h1 h2 h3 st⟩] hc

theorem grp_apply (g : ℕ) (hg : g < 8) (hs0 hs1 hs2 hs3 hs4 hs5 hs6 hs7 h1 h2 h3 hc st) (h : Fin 8) (k : Fin 1024) :
    grp g hs0 hs1 hs2 hs3 hs4 hs5 hs6 hs7 h1 h2 h3 hc st (ix2 h k) = if k.val % 8 = h.val then st (ix3 ⟨g, hg⟩ ⟨k.val / 128, by omega⟩ ⟨k.val % 128, Nat.mod_lt _ (by norm_num)⟩) else 0 := by
  have key : ∀ (q : ℕ) (hq : q < 8) (hs : S8x8x128.Slices ![g, q, 0] S1x1x128) (l : Fin 128), k.val = 128 * q + l.val →
      blk g q hs h1 h2 h3 st (ix2 h l) = if k.val % 8 = h.val then st (ix3 ⟨g, hg⟩ ⟨k.val / 128, by omega⟩ ⟨k.val % 128, Nat.mod_lt _ (by norm_num)⟩) else 0 := by
    intro q hq hs l hk
    rw [blk_apply g q hg hq]
    have e1 : l.val % 8 = k.val % 8 := by omega
    have e2 : (⟨q, hq⟩ : Fin 8) = ⟨k.val / 128, by omega⟩ := Fin.ext (by show q = k.val / 128; omega)
    have e3 : l = ⟨k.val % 128, Nat.mod_lt _ (by norm_num)⟩ := Fin.ext (by show l.val = k.val % 128; omega)
    rw [e1, e2, ← e3]
  unfold grp
  pointwise
  split
  · exact key 0 (by norm_num) _ _ (by show k.val = 128 * 0 + (k.val); omega)
  split
  · exact key 1 (by norm_num) _ _ (by show k.val = 128 * 1 + (k.val - 128); omega)
  split
  · exact key 2 (by norm_num) _ _ (by show k.val = 128 * 2 + (k.val - 128 - 128); omega)
  split
  · exact key 3 (by norm_num) _ _ (by show k.val = 128 * 3 + (k.val - 128 - 128 - 128); omega)
  split
  · exact key 4 (by norm_num) _ _ (by show k.val = 128 * 4 + (k.val - 128 - 128 - 128 - 128); omega)
  split
  · exact key 5 (by norm_num) _ _ (by show k.val = 128 * 5 + (k.val - 128 - 128 - 128 - 128 - 128); omega)
  split
  · exact key 6 (by norm_num) _ _ (by show k.val = 128 * 6 + (k.val - 128 - 128 - 128 - 128 - 128 - 128); omega)
  exact key 7 (by norm_num) _ _ (by show k.val = 128 * 7 + (k.val - 128 - 128 - 128 - 128 - 128 - 128 - 128); omega)

/-- The eight groups, one above the other. -/
def stack (hc : Shape.Concatenates [S8x1024, S8x1024, S8x1024, S8x1024, S8x1024, S8x1024, S8x1024, S8x1024] S64x1024 0) (G0 G1 G2 G3 G4 G5 G6 G7 : FVec Ideal S8x1024 .f32) : FVec Ideal S64x1024 .f32 :=
  concatenate S64x1024 0 [⟨S8x1024, G0⟩, ⟨S8x1024, G1⟩, ⟨S8x1024, G2⟩, ⟨S8x1024, G3⟩, ⟨S8x1024, G4⟩, ⟨S8x1024, G5⟩, ⟨S8x1024, G6⟩, ⟨S8x1024, G7⟩] hc

theorem stack_apply (hc G0 G1 G2 G3 G4 G5 G6 G7) (f : Fin 64 → Fin 1024 → EReal)
    (hf : ∀ (h : Fin 8) (k : Fin 1024), G0 (ix2 h k) = f ⟨0 + h.val, by omega⟩ k ∧ G1 (ix2 h k) = f ⟨8 + h.val, by omega⟩ k ∧ G2 (ix2 h k) = f ⟨16 + h.val, by omega⟩ k ∧ G3 (ix2 h k) = f ⟨24 + h.val, by omega⟩ k ∧ G4 (ix2 h k) = f ⟨32 + h.val, by omega⟩ k ∧ G5 (ix2 h k) = f ⟨40 + h.val, by omega⟩ k ∧ G6 (ix2 h k) = f ⟨48 + h.val, by omega⟩ k ∧ G7 (ix2 h k) = f ⟨56 + h.val, by omega⟩ k) (r : Fin 64) (k : Fin 1024) :
    stack hc G0 G1 G2 G3 G4 G5 G6 G7 (ix2 r k) = f r k := by
  unfold stack
  pointwise
  split
  · exact ((hf _ k).1).trans (congrArg (f · k) (Fin.ext (by show 0 + (r.val) = r.val; omega)))
  split
  · exact ((hf _ k).2.1).trans (congrArg (f · k) (Fin.ext (by show 8 + (r.val - 8) = r.val; omega)))
  split
  · exact ((hf _ k).2.2.1).trans (congrArg (f · k) (Fin.ext (by show 16 + (r.val - 8 - 8) = r.val; omega)))
  split
  · exact ((hf _ k).2.2.2.1).trans (congrArg (f · k) (Fin.ext (by show 24 + (r.val - 8 - 8 - 8) = r.val; omega)))
  split
  · exact ((hf _ k).2.2.2.2.1).trans (congrArg (f · k) (Fin.ext (by show 32 + (r.val - 8 - 8 - 8 - 8) = r.val; omega)))
  split
  · exact ((hf _ k).2.2.2.2.2.1).trans (congrArg (f · k) (Fin.ext (by show 40 + (r.val - 8 - 8 - 8 - 8 - 8) = r.val; omega)))
  split
  · exact ((hf _ k).2.2.2.2.2.2.1).trans (congrArg (f · k) (Fin.ext (by show 48 + (r.val - 8 - 8 - 8 - 8 - 8 - 8) = r.val; omega)))
  exact ((hf _ k).2.2.2.2.2.2.2).trans (congrArg (f · k) (Fin.ext (by show 56 + (r.val - 8 - 8 - 8 - 8 - 8 - 8 - 8) = r.val; omega)))

/-- The column of one token in the zero-one matrix. -/
theorem place_mask (k : Fin 1024) (c : Fin 128) :
    (cmpi .eq (select (andi kernelRun0_A.sl.v3788 (cmpi .ne (k0_pay677 kernelRun0_A.sl.v3772 kernelRun0_A.sl.v3773) (broadcast S1024x128 0#32)))
        (subi (divsi kernelRun0_A.sl.v3772 kernelRun0_A.sl.v3773) (broadcast S1024x128 1#32)) (divsi kernelRun0_A.sl.v3772 kernelRun0_A.sl.v3773))
      (iota .tc S1024x128 32 [1] iota_S1024x128_d1_w32)) (ix2 k c) = if k.val / 8 = c.val then 1#1 else 0#1 := by
  show Scalar.cmpi .eq (select (andi kernelRun0_A.sl.v3788 (cmpi .ne (k0_pay677 kernelRun0_A.sl.v3772 kernelRun0_A.sl.v3773) (broadcast S1024x128 0#32)))
        (subi (divsi kernelRun0_A.sl.v3772 kernelRun0_A.sl.v3773) (broadcast S1024x128 1#32)) (divsi kernelRun0_A.sl.v3772 kernelRun0_A.sl.v3773) (ix2 k c))
      (iota .tc S1024x128 32 [1] iota_S1024x128_d1_w32 (ix2 k c)) = _
  have e1 : select (andi kernelRun0_A.sl.v3788 (cmpi .ne (k0_pay677 kernelRun0_A.sl.v3772 kernelRun0_A.sl.v3773) (broadcast S1024x128 0#32)))
        (subi (divsi kernelRun0_A.sl.v3772 kernelRun0_A.sl.v3773) (broadcast S1024x128 1#32)) (divsi kernelRun0_A.sl.v3772 kernelRun0_A.sl.v3773) (ix2 k c)
      = BitVec.ofNat 32 (k.val / 8) := by
    simp only [kernelRun0_A.sl.v3788, kernelRun0_A.sl.v3772, kernelRun0_A.sl.v3773, kernelRun0_A.sl.v3775, kernelRun0_A.sl.v3777, kernelRun0_A.sl.v3780,
      kernelRun0_A.sl.v3787, k0_pay677]
    pointwise
    revert k
    decide +kernel
  have e2 : iota .tc S1024x128 32 [1] iota_S1024x128_d1_w32 (ix2 k c) = BitVec.ofNat 32 c.val := by
    pointwise
  rw [e1, e2]
  have hk : k.val / 8 < 128 := by omega
  have : ∀ a b : Fin 128, Scalar.cmpi .eq (BitVec.ofNat 32 a.val) (BitVec.ofNat 32 b.val) = if a.val = b.val then 1#1 else 0#1 := by decide +kernel
  exact this ⟨k.val / 8, hk⟩ c

end Cert.Fox

end
-- ==== Proof.Pick.lean ====
module

public import proofs.«01_k».proof.Proof.Spread

@[expose] public section

set_option maxRecDepth 16384

/-! # Picking each token's statistic -/

noncomputable section

namespace Cert.Fox

open Idealize.ShloMosaic Idealize.ShloMosaic.TcCoe Cert.KernelIdeal Cert.KernelIdeal.Gen

/-- A zero-one matrix from a mask. -/
def bits (m : IVec S1024x128 1) : FVec Ideal S1024x128 .bf16 :=
  truncf .bf16 (sitofp .f32 (extui 32 m natLt_1_32)) bitsLt_bf16_f32

theorem bits_apply (m : IVec S1024x128 1) (j : S1024x128.Idx) (p : Prop) [Decidable p] (h : m j = if p then 1#1 else 0#1) :
    bits m j = if p then 1 else 0 := by
  show (((Scalar.extui (m j) : BitVec 32).toInt : ℝ) : EReal) = _
  rw [h]
  by_cases hp : p
  · rw [if_pos hp, if_pos hp]
    simp [Scalar.extui]
  · rw [if_neg hp, if_neg hp]
    simp [Scalar.extui]

/-- The product with a zero-one matrix in three passes over the operand's parts. -/
def pick (m : IVec S1024x128 1) (y : FVec Ideal S64x1024 .f32) : FVec Ideal S64x128 .f32 :=
  have y1 := extf .f32 (truncf .bf16 y bitsLt_bf16_f32) bitsLt_bf16_f32
  have y2 := subf y y1
  have y3 := extf .f32 (truncf .bf16 y2 bitsLt_bf16_f32) bitsLt_bf16_f32
  have y4 := subf y2 y3
  addf (addf (addf (broadcast S64x128 (Scalar.ofBits .f32 0#32))
    (matmul (DotDims.plain 64 1024 128) none (truncf .bf16 y1 bitsLt_bf16_f32) (bits m) (constant S64x128 .f32 0#32)))
    (matmul (DotDims.plain 64 1024 128) none (truncf .bf16 y3 bitsLt_bf16_f32) (bits m) (constant S64x128 .f32 0#32)))
    (matmul (DotDims.plain 64 1024 128) none (truncf .bf16 y4 bitsLt_bf16_f32) (bits m) (constant S64x128 .f32 0#32))

theorem pick_read (m y) (r : Fin 64) (c : Fin 128) :
    pick m y (ix2 r c) = ((∑ k : Fin 1024, y (ix2 r k) * bits m (ix2 k c)) + (∑ k : Fin 1024, (y (ix2 r k) - y (ix2 r k)) * bits m (ix2 k c)))
      + (∑ k : Fin 1024, ((y (ix2 r k) - y (ix2 r k)) - (y (ix2 r k) - y (ix2 r k))) * bits m (ix2 k c)) := by
  unfold pick
  pointwise

theorem sum_pick (r : Fin 64) (c : Fin 128) (F : Fin 1024 → EReal) (p : Fin 1024 → EReal) (hp : ∀ k, p k = if k.val / 8 = c.val then 1 else 0)
    (hF : ∀ k, k.val % 8 ≠ r.val % 8 → F k = 0) :
    (∑ k, F k * p k) = F ⟨8 * c.val + r.val % 8, by omega⟩ := by
  rw [Finset.sum_eq_single (⟨8 * c.val + r.val % 8, by omega⟩ : Fin 1024)]
  · rw [hp, if_pos (by show (8 * c.val + r.val % 8) / 8 = c.val; omega), mul_one]
  · intro k _ hk
    rw [hp]
    split
    · rename_i h
      rw [hF k, zero_mul]
      intro h'
      apply hk
      apply Fin.ext
      show k.val = 8 * c.val + r.val % 8
      omega
    · rw [mul_zero]
  · intro h
    exact absurd (Finset.mem_univ _) h

/-- The three parts of a value below `∞` sum to it. -/
theorem parts_sum (s : EReal) (hs : s ≠ ⊤) : (s + (s - s)) + ((s - s) - (s - s)) = s := by
  induction s with
  | bot => rfl
  | top => exact absurd rfl hs
  | coe a =>
    have e : (a : EReal) - (a : EReal) = 0 := by rw [← EReal.coe_sub, sub_self]; rfl
    rw [e, add_zero, sub_zero, add_zero]

theorem pick_apply (m y) (s : Fin 64 → Fin 128 → EReal) (hm : ∀ k c, m (ix2 k c) = if k.val / 8 = c.val then 1#1 else 0#1)
    (hy : ∀ r (k : Fin 1024), y (ix2 r k) = if k.val % 8 = r.val % 8 then s r ⟨k.val / 8, by omega⟩ else 0) (hs : ∀ r c, s r c ≠ ⊤)
    (r : Fin 64) (c : Fin 128) : pick m y (ix2 r c) = s r c := by
  have hp : ∀ k, bits m (ix2 k c) = if k.val / 8 = c.val then 1 else 0 := fun k => bits_apply m _ _ (hm k c)
  have h0 : ∀ k : Fin 1024, k.val % 8 ≠ r.val % 8 → y (ix2 r k) = 0 := fun k hk => by rw [hy, if_neg hk]
  rw [pick_read, sum_pick r c _ _ hp h0, sum_pick r c _ _ hp (fun k hk => by rw [h0 k hk, sub_zero]),
    sum_pick r c _ _ hp (fun k hk => by rw [h0 k hk, sub_zero, sub_zero])]
  have e : y (ix2 r ⟨8 * c.val + r.val % 8, by omega⟩) = s r c := by
    rw [hy, if_pos (by show (8 * c.val + r.val % 8) % 8 = r.val % 8; omega)]
    congr 1
    apply Fin.ext
    show (8 * c.val + r.val % 8) / 8 = c.val
    omega
  rw [e, parts_sum _ (hs r c)]

/-- The picked rows side by side, in base e, with the gate's sum added back. -/
def glue (p : FVec Ideal S64x128 .f32) (v : FVec Ideal S8x1024 .f32) : FVec Ideal S1x1x8x1024 .f32 :=
  shapeCast S1x1x8x1024 (addf (mulf (concatenate S8x1024 1 [⟨S8x128, extractStridedSlice S8x128 ![0, 0] p slices_S64x128_o0_0_S8x128⟩,
    ⟨S8x128, extractStridedSlice S8x128 ![8, 0] p slices_S64x128_o8_0_S8x128⟩, ⟨S8x128, extractStridedSlice S8x128 ![16, 0] p slices_S64x128_o16_0_S8x128⟩,
    ⟨S8x128, extractStridedSlice S8x128 ![24, 0] p slices_S64x128_o24_0_S8x128⟩, ⟨S8x128, extractStridedSlice S8x128 ![32, 0] p slices_S64x128_o32_0_S8x128⟩,
    ⟨S8x128, extractStridedSlice S8x128 ![40, 0] p slices_S64x128_o40_0_S8x128⟩, ⟨S8x128, extractStridedSlice S8x128 ![48, 0] p slices_S64x128_o48_0_S8x128⟩,
    ⟨S8x128, extractStridedSlice S8x128 ![56, 0] p slices_S64x128_o56_0_S8x128⟩] concatenates_S8x128_S8x128_S8x128_S8x128_S8x128_S8x128_S8x128_S8x128_S8x1024_d1)
    (broadcast S8x1024 (Named.named κ "ln2" 0x3F317218#32))) v) shapeCasts_S8x1024_S1x1x8x1024

theorem glue_apply (p v) (h : Fin 8) (t : Fin 1024) :
    glue p v (ix4 0 0 h t) = p (ix2 ⟨8 * (t.val / 128) + h.val, by omega⟩ ⟨t.val % 128, Nat.mod_lt _ (by norm_num)⟩) * ((Real.log 2 : ℝ) : EReal) + v (ix2 h t) := by
  unfold glue
  pointwise
  rw [ln2_val]
  congr 2
  split_ifs <;> congr 2 <;> apply Fin.ext <;> simp only [] <;> omega

theorem pay1_eq (v y a b c) : k0_pay1 (F := Ideal) v y a b c
    = glue (pick (cmpi .eq (select (andi b (cmpi .ne c (broadcast S1024x128 0#32))) (subi a (broadcast S1024x128 1#32)) a) (iota .tc S1024x128 32 [1] iota_S1024x128_d1_w32)) y) v := rfl

end Cert.Fox

end
-- ==== Proof.LBlock.lean ====
module

public import proofs.«01_k».proof.Proof.SBlock
public import proofs.«01_k».proof.Proof.Pick

@[expose] public section

set_option maxRecDepth 16384

/-! # The staged log-sum-exp block -/

noncomputable section

namespace Cert.Fox

open Idealize.ShloMosaic Idealize.ShloMosaic.TcCoe Cert.KernelIdeal Cert.KernelIdeal.Gen

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32} {x : In}

/-- The spread statistics. -/
def spreadG (x : In) (r : Fin 64) (k : Fin 1024) : EReal :=
  if k.val % 8 = r.val % 8 then x.stat ⟨r.val / 8 * 128 + k.val / 8, by omega⟩ ⟨r.val % 8, Nat.mod_lt _ (by norm_num)⟩ else 0

theorem cast_rows (y : FVec Ideal S64x128 .f32) (hs) (g q : Fin 8) (l : Fin 128) :
    shapeCast S8x8x128 y hs (ix3 g q l) = y (ix2 ⟨8 * g.val + q.val, by omega⟩ l) := by
  pointwise
  congr 2
  apply Fin.ext
  show g.val * 8 + q.val = 8 * g.val + q.val
  omega

theorem st_read (H : Base c i arg2 harg2 arg3 harg3 arg6 harg6 arg7 harg7 arg8 harg8 x0 x1 x2 x3 x4 x5 x6 x) (g q : Fin 8) (l : Fin 128) : (kernelRun0_A.sl.v3359 (F := Ideal) c i arg2 harg2 arg3 harg3 arg4 harg4 arg5 harg5 arg8 harg8 arg11 arg14 x0 x1 x2 x3 x6) (ix3 g q l) = sG x (ix2 ⟨8 * g.val + q.val, by omega⟩ l) :=
  (cast_rows _ _ g q l).trans (s_read H _ l)

theorem spread_group (H : Base c i arg2 harg2 arg3 harg3 arg6 harg6 arg7 harg7 arg8 harg8 x0 x1 x2 x3 x4 x5 x6 x) (g : ℕ) (hg : g < 8) (h : Fin 8) (k : Fin 1024) :
    (if k.val % 8 = h.val then (kernelRun0_A.sl.v3359 (F := Ideal) c i arg2 harg2 arg3 harg3 arg4 harg4 arg5 harg5 arg8 harg8 arg11 arg14 x0 x1 x2 x3 x6) (ix3 ⟨g, hg⟩ ⟨k.val / 128, by omega⟩ ⟨k.val % 128, Nat.mod_lt _ (by norm_num)⟩) else 0)
      = spreadG x ⟨8 * g + h.val, by omega⟩ k := by
  unfold spreadG
  have e : (8 * g + h.val) % 8 = h.val := by omega
  by_cases hk : k.val % 8 = h.val
  · rw [if_pos hk, if_pos (by show k.val % 8 = (8 * g + h.val) % 8; omega), st_read H]
    unfold sG
    congr 1
    · apply Fin.ext
      show (8 * g + k.val / 128) * 16 + k.val % 128 / 8 = (8 * g + h.val) / 8 * 128 + k.val / 8
      omega
    · apply Fin.ext
      show k.val % 128 % 8 = (8 * g + h.val) % 8
      omega
  · rw [if_neg hk, if_neg (by show ¬ k.val % 8 = (8 * g + h.val) % 8; omega)]

theorem spread_read (H : Base c i arg2 harg2 arg3 harg3 arg6 harg6 arg7 harg7 arg8 harg8 x0 x1 x2 x3 x4 x5 x6 x) (r : Fin 64) (k : Fin 1024) : (kernelRun0_A.sl.v3771 (F := Ideal) c i arg2 harg2 arg3 harg3 arg4 harg4 arg5 harg5 arg8 harg8 arg11 arg14 x0 x1 x2 x3 x6) (ix2 r k) = spreadG x r k :=
  stack_apply _ _ _ _ _ _ _ _ _ (spreadG x) (fun h k => ⟨(grp_apply 0 (by norm_num) _ _ _ _ _ _ _ _ _ _ _ _ _ h k).trans (spread_group H 0 (by norm_num) h k), (grp_apply 1 (by norm_num) _ _ _ _ _ _ _ _ _ _ _ _ _ h k).trans (spread_group H 1 (by norm_num) h k), (grp_apply 2 (by norm_num) _ _ _ _ _ _ _ _ _ _ _ _ _ h k).trans (spread_group H 2 (by norm_num) h k), (grp_apply 3 (by norm_num) _ _ _ _ _ _ _ _ _ _ _ _ _ h k).trans (spread_group H 3 (by norm_num) h k), (grp_apply 4 (by norm_num) _ _ _ _ _ _ _ _ _ _ _ _ _ h k).trans (spread_group H 4 (by norm_num) h k), (grp_apply 5 (by norm_num) _ _ _ _ _ _ _ _ _ _ _ _ _ h k).trans (spread_group H 5 (by norm_num) h k), (grp_apply 6 (by norm_num) _ _ _ _ _ _ _ _ _ _ _ _ _ h k).trans (spread_group H 6 (by norm_num) h k), (grp_apply 7 (by norm_num) _ _ _ _ _ _ _ _ _ _ _ _ _ h k).trans (spread_group H 7 (by norm_num) h k)⟩) r k

/-- The staged log-sum-exp block after the grid point. -/
theorem l_block (H : Base c i arg2 harg2 arg3 harg3 arg6 harg6 arg7 harg7 arg8 harg8 x0 x1 x2 x3 x4 x5 x6 x) (hs : ∀ t h, x.stat t h ≠ ⊤) (h : Fin 8) (t : Fin 1024) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix4 0 0 h t) = x.stat t h * ((Real.log 2 : ℝ) : EReal) + (kernelRun0_A.sl.r (F := Ideal) c arg8 harg8 x6) (ix2 h t) := by
  have e : out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 = k0_pay1 (kernelRun0_A.sl.r (F := Ideal) c arg8 harg8 x6) (kernelRun0_A.sl.v3771 (F := Ideal) c i arg2 harg2 arg3 harg3 arg4 harg4 arg5 harg5 arg8 harg8 arg11 arg14 x0 x1 x2 x3 x6) (divsi kernelRun0_A.sl.v3772 kernelRun0_A.sl.v3773) kernelRun0_A.sl.v3788 (k0_pay677 kernelRun0_A.sl.v3772 kernelRun0_A.sl.v3773) := by
    unfold out0_A_8 kernelRun0_A
    exact View.read_writes_full (Val := Elt Ideal) VO0_8 VO0_8.junk (off := ![0, 0, 0, 0]) inb_S1x1x8x1024_S1x1x8x1024_0_0_0_0 _ []
  rw [e, pay1_eq, glue_apply, pick_apply _ _ (fun r c => x.stat ⟨r.val / 8 * 128 + c.val, by omega⟩ ⟨r.val % 8, Nat.mod_lt _ (by norm_num)⟩) place_mask
    (fun r k => spread_read H r k) (fun r c => hs _ _)]
  congr 3
  · apply Fin.ext
    show (8 * (t.val / 128) + h.val) / 8 * 128 + t.val % 128 = t.val
    omega
  · apply Fin.ext
    show (8 * (t.val / 128) + h.val) % 8 = h.val
    omega

end Cert.Fox

end
-- ==== Proof.Value.lean ====
module

public import proofs.«01_k».proof.Proof.Gate
public import proofs.«01_k».proof.Proof.Prep
public import proofs.«01_k».proof.Proof.OBlock
public import proofs.«01_k».proof.Proof.LBlock
public import proofs.«01_k».proof.Proof.Rows

@[expose] public section

set_option maxRecDepth 16384

/-! # A grid point's results in the reference's terms

The attention of one batch element and one head: logits with the running sums of the log gates, the
row's maximum, the sum of its shifted exponentials, the weights and the weighted values. -/

noncomputable section

namespace Cert.Fox

open Idealize.ShloMosaic Idealize.ShloMosaic.TcCoe Cert.KernelIdeal Cert.KernelIdeal.Gen

/-- What one head's attention reads. -/
structure Head where
  q : Fin 1024 → Fin 128 → EReal
  k : Fin 1024 → Fin 128 → EReal
  v : Fin 1024 → Fin 128 → EReal
  a : EReal
  c : Fin 1024 → ℝ
  vs : Fin 128 → EReal

namespace Head

variable (y : Head) (t : Fin 1024)

/-- The logit of a query token and a key token. -/
def logit (j : Fin 1024) : EReal :=
  if j.val ≤ t.val then ((∑ d : Fin 128, y.q t d * y.k j d) * y.a + ((y.c t : ℝ) : EReal)) - ((y.c j : ℝ) : EReal) else ⊥

/-- The logarithm of the sum of a row's exponentials. -/
def lse : EReal := rmax Finset.univ (y.logit t) + Ideal.log (rsum Finset.univ (y.logit t))

/-- The output. -/
def out (d : Fin 128) : EReal :=
  (∑ j : Fin 1024, Ideal.exp ((y.logit t j - rmax Finset.univ (y.logit t)) - Ideal.log (rsum Finset.univ (y.logit t))) * y.v j d) * y.vs d

end Head

variable {c : Dev nD} {i : grid0.Coords} {arg2 : Memref sig .tc .smem S3x16 .f32} {harg2 : arg2.IsWhole} {arg3 : Memref sig .tc .smem S3x2 .f32} {harg3 : arg3.IsWhole} {arg4 : Memref sig .tc .vmem S1x1024x8x128 .fp8e4m3} {harg4 : arg4.IsWhole} {arg5 : Memref sig .tc .vmem S1x1x1024x128 .fp8e4m3} {harg5 : arg5.IsWhole} {arg6 : Memref sig .tc .vmem S1x1x1024x128 .fp8e4m3} {harg6 : arg6.IsWhole} {arg7 : Memref sig .tc .vmem S1x1x1x128 .f32} {harg7 : arg7.IsWhole} {arg8 : Memref sig .tc .vmem S1x1x8x1024 .f32} {harg8 : arg8.IsWhole} {arg9 : Memref sig .tc .vmem S1x1024x1024 .bf16} {harg9 : arg9.IsWhole} {arg10 : Memref sig .tc .vmem S1x1x8x1024 .f32} {harg10 : arg10.IsWhole} {arg11 : Memref sig .tc .vmem S1024x128 .f32} {harg11 : arg11.IsWhole} {arg12 : Memref sig .tc .vmem S128x1024 .bf16} {harg12 : arg12.IsWhole} {arg13 : Memref sig .tc .vmem S128x2x128 .bf16} {harg13 : arg13.IsWhole} {arg14 : Memref sig .tc .vmem S64x128 .f32} {harg14 : arg14.IsWhole} {x0 : Vec Ideal S3x16 .f32} {x1 : Vec Ideal S3x2 .f32} {x2 : Vec Ideal S1x1024x8x128 .fp8e4m3} {x3 : Vec Ideal S1x1x1024x128 .fp8e4m3} {x4 : Vec Ideal S1x1x1024x128 .fp8e4m3} {x5 : Vec Ideal S1x1x1x128 .f32} {x6 : Vec Ideal S1x1x8x1024 .f32}

/-- The grid point's data, as the tiles read it. -/
def inp (i : grid0.Coords) (x0 : Vec Ideal S3x16 .f32) (x1 : Vec Ideal S3x2 .f32) (x2 : Vec Ideal S1x1024x8x128 .fp8e4m3)
    (x3 : Vec Ideal S1x1x1024x128 .fp8e4m3) (x4 : Vec Ideal S1x1x1024x128 .fp8e4m3) (x5 : Vec Ideal S1x1x1x128 .f32)
    (x6 : Vec Ideal S1x1x8x1024 .f32) : In where
  k j d := x3 (ix4 0 0 j d)
  v j d := x4 (ix4 0 0 j d)
  q t h d := x2 (ix4 0 t h d)
  s h := ((x0 (ix2 ⟨(i 0).val, (i 0).isLt⟩ ⟨8 * (i 1).val + h.val, by have := (i 1).isLt; change (i 1).val < 2 at this; omega⟩) *
      x1 (ix2 ⟨(i 0).val, (i 0).isLt⟩ ⟨(i 1).val, (i 1).isLt⟩)) * (FloatOps.ofBits FTy.f32 1035273459#32 : Ideal .f32)) * (L : EReal)
  b h j := ((cum x6 h j * (-L) : ℝ) : EReal)
  vs d := x5 (ix4 0 0 0 d)

/-- One head of the grid point. -/
def head (i : grid0.Coords) (x0 : Vec Ideal S3x16 .f32) (x1 : Vec Ideal S3x2 .f32) (x2 : Vec Ideal S1x1024x8x128 .fp8e4m3)
    (x3 : Vec Ideal S1x1x1024x128 .fp8e4m3) (x4 : Vec Ideal S1x1x1024x128 .fp8e4m3) (x5 : Vec Ideal S1x1x1x128 .f32)
    (x6 : Vec Ideal S1x1x8x1024 .f32) (h : Fin 8) : Head where
  k j d := x3 (ix4 0 0 j d)
  v j d := x4 (ix4 0 0 j d)
  q t d := x2 (ix4 0 t h d)
  a := ((x0 (ix2 ⟨(i 0).val, (i 0).isLt⟩ ⟨8 * (i 1).val + h.val, by have := (i 1).isLt; change (i 1).val < 2 at this; omega⟩) *
      x1 (ix2 ⟨(i 0).val, (i 0).isLt⟩ ⟨(i 1).val, (i 1).isLt⟩)) * (FloatOps.ofBits FTy.f32 1035273459#32 : Ideal .f32))
  c j := cum x6 h j
  vs d := x5 (ix4 0 0 0 d)

theorem base (hx : ∀ h t, x6 (ix4 0 0 h t) ≠ ⊥) : Base c i arg2 harg2 arg3 harg3 arg6 harg6 arg7 harg7 arg8 harg8 x0 x1 x2 x3 x4 x5 x6 (inp i x0 x1 x2 x3 x4 x5 x6) where
  k _ _ := rfl
  q _ _ _ := rfl
  s l := scale_apply l
  b j l := bias_apply hx j l
  v d j := v_apply d j
  vs d := vs_apply d

section
variable (i : grid0.Coords) (x0 : Vec Ideal S3x16 .f32) (x1 : Vec Ideal S3x2 .f32) (x2 : Vec Ideal S1x1024x8x128 .fp8e4m3)
    (x3 : Vec Ideal S1x1x1024x128 .fp8e4m3) (x4 : Vec Ideal S1x1x1024x128 .fp8e4m3) (x5 : Vec Ideal S1x1x1x128 .f32)
    (x6 : Vec Ideal S1x1x8x1024 .f32) (h : Fin 8) (t : Fin 1024)

theorem log_phi (j : Fin 1024) : (inp i x0 x1 x2 x3 x4 x5 x6).log t h j = phi (cum x6 h t) ((head i x0 x1 x2 x3 x4 x5 x6 h).logit t j) := by
  unfold In.log Head.logit
  by_cases hj : j.val ≤ t.val
  · rw [if_pos hj, if_pos hj]
    show (∑ d : Fin 128, x3 (ix4 0 0 j d) * x2 (ix4 0 t h d)) * (_ * (L : EReal)) + ((cum x6 h j * (-L) : ℝ) : EReal) = _
    rw [EReal.coe_mul, ← mul_assoc, logit_eq _ (cum x6 h t)]
    have e : (∑ d : Fin 128, (x3 (ix4 0 0 j d) : EReal) * x2 (ix4 0 t h d)) = ∑ d : Fin 128, (x2 (ix4 0 t h d) : EReal) * x3 (ix4 0 0 j d) :=
      Finset.sum_congr rfl fun d _ => mul_comm _ _
    rw [e]
    rfl
  · rw [if_neg hj, if_neg hj, phi_bot]

theorem max_phi : (inp i x0 x1 x2 x3 x4 x5 x6).max t h = phi (cum x6 h t) (rmax Finset.univ ((head i x0 x1 x2 x3 x4 x5 x6 h).logit t)) := by
  rw [← sup_phi]
  exact Finset.sup_congr rfl fun j _ => log_phi i x0 x1 x2 x3 x4 x5 x6 h t j

theorem ex_phi (j : Fin 1024) : (inp i x0 x1 x2 x3 x4 x5 x6).ex t h j =
    Ideal.exp ((head i x0 x1 x2 x3 x4 x5 x6 h).logit t j - rmax Finset.univ ((head i x0 x1 x2 x3 x4 x5 x6 h).logit t)) := by
  unfold In.ex
  rw [log_phi, max_phi, exp2_row]

theorem sum_phi : (inp i x0 x1 x2 x3 x4 x5 x6).sum t h = rsum Finset.univ ((head i x0 x1 x2 x3 x4 x5 x6 h).logit t) :=
  Finset.sum_congr rfl fun j _ => ex_phi i x0 x1 x2 x3 x4 x5 x6 h t j

theorem stat_phi : (inp i x0 x1 x2 x3 x4 x5 x6).stat t h = phi (cum x6 h t) (rmax Finset.univ ((head i x0 x1 x2 x3 x4 x5 x6 h).logit t))
    + Ideal.log (rsum Finset.univ ((head i x0 x1 x2 x3 x4 x5 x6 h).logit t)) * (L : EReal) := by
  unfold In.stat
  rw [max_phi, sum_phi]

theorem out_phi (d : Fin 128) : (inp i x0 x1 x2 x3 x4 x5 x6).out t h d * x5 (ix4 0 0 0 d) = (head i x0 x1 x2 x3 x4 x5 x6 h).out t d := by
  unfold In.out Head.out
  rw [sum_phi, ← row_out]
  have e : (∑ j : Fin 1024, (inp i x0 x1 x2 x3 x4 x5 x6).v j d * (inp i x0 x1 x2 x3 x4 x5 x6).ex t h j) =
      ∑ j : Fin 1024, (head i x0 x1 x2 x3 x4 x5 x6 h).v j d * Ideal.exp ((head i x0 x1 x2 x3 x4 x5 x6 h).logit t j - rmax Finset.univ ((head i x0 x1 x2 x3 x4 x5 x6 h).logit t)) :=
    Finset.sum_congr rfl fun j _ => by rw [ex_phi]; rfl
  rw [e]
  rfl

theorem lse_phi : (inp i x0 x1 x2 x3 x4 x5 x6).stat t h * ((Real.log 2 : ℝ) : EReal) + ((cum x6 h t : ℝ) : EReal) = (head i x0 x1 x2 x3 x4 x5 x6 h).lse t := by
  rw [stat_phi, stat_back]
  rfl

end

/-- The output block. -/
theorem o_value (hx : ∀ h t, x6 (ix4 0 0 h t) ≠ ⊥) (t : Fin 1024) (n : Fin 1024) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 0 t n) = (head i x0 x1 x2 x3 x4 x5 x6 ⟨n.val / 128, by omega⟩).out t ⟨n.val % 128, Nat.mod_lt _ (by norm_num)⟩ := by
  rw [o_block (base hx)]
  exact out_phi i x0 x1 x2 x3 x4 x5 x6 ⟨n.val / 128, by omega⟩ t ⟨n.val % 128, Nat.mod_lt _ (by norm_num)⟩

/-- The block of row statistics. -/
theorem l_value (hx : ∀ h t, x6 (ix4 0 0 h t) ≠ ⊥) (h : Fin 8) (t : Fin 1024) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix4 0 0 h t) = (head i x0 x1 x2 x3 x4 x5 x6 h).lse t := by
  rw [l_block (base hx) (fun t h => by rw [stat_phi]; exact stat_ne_top _ _ _), cum_apply hx]
  exact lse_phi i x0 x1 x2 x3 x4 x5 x6 h t

end Cert.Fox

end
-- ==== Proof.RefRow.lean ====
module

public import proofs.«01_k».proof.Proof.Value
public import Idealize.ShloMosaic.Lib.Pipeline.ValueKit
public import Idealize.ShloMosaic.Lib.Claim
public import Idealize.ShloMosaic.Lib.StableHlo.ReadAt
public import proofs.«01_k».proof.Proof.Gen.ReferenceIdeal.Frame

@[expose] public section

/-! # The reference's softmax and its two results

The reference's last operations, from the masked logits on: row maxima, shifted exponentials, the logarithm of their sum,
the weights, the weighted values, and the rearrangement by batch element, token and head. -/

noncomputable section
namespace Cert.FoxRef
open Idealize.ShloMosaic Idealize.ShloMosaic.TcCoe Idealize.ShloMosaic.Pointwise
open Idealize.SL.Sem
open Cert.ReferenceIdeal Cert.ReferenceIdeal.Gen

/-- The row maxima. -/
def mx (x : Vec Ideal S3x2x8x1024x1024 .f32) : FVec Ideal S3x2x8x1024 .f32 :=
  Host.reduce FloatOps.maximumf x (constant S_ .f32 0xFF800000#32) reducesTo_S3x2x8x1024x1024_S3x2x8x1024_d4 h_S_

/-- The logits less their row's maximum. -/
def sh (x : Vec Ideal S3x2x8x1024x1024 .f32) : FVec Ideal S3x2x8x1024x1024 .f32 :=
  subf x (broadcastInDim S3x2x8x1024x1024 ![0, 1, 2, 3, 4] bcast_S3x2x8x1024x1_S3x2x8x1024x1024_0_1_2_3_4 (broadcastInDim S3x2x8x1024x1 ![0, 1, 2, 3] bcast_S3x2x8x1024_S3x2x8x1024x1_0_1_2_3 (mx x)))

/-- The logarithm of the rows' sums. -/
def lg (x : Vec Ideal S3x2x8x1024x1024 .f32) : FVec Ideal S3x2x8x1024 .f32 :=
  Host.log (Host.reduceAdd (Host.exp (sh x)) (constant S_ .f32 0x00000000#32) reducesTo_S3x2x8x1024x1024_S3x2x8x1024_d4 h_S_)

/-- The weights. -/
def wt (x : Vec Ideal S3x2x8x1024x1024 .f32) : FVec Ideal S3x2x8x1024x1024 .f32 :=
  Host.exp (subf (sh x) (broadcastInDim S3x2x8x1024x1024 ![0, 1, 2, 3, 4] bcast_S3x2x8x1024x1_S3x2x8x1024x1024_0_1_2_3_4 (broadcastInDim S3x2x8x1024x1 ![0, 1, 2, 3] bcast_S3x2x8x1024_S3x2x8x1024x1_0_1_2_3 (lg x))))

variable (x : Vec Ideal S3x2x8x1024x1024 .f32) (b : Fin 3) (k : Fin 2) (h : Fin 8) (t j : Fin 1024)

/-- The word of minus infinity. -/
theorem ninf : Ideal.ofBits FTy.f32 4286578688#32 = ⊥ := by simp [Ideal.ofBits, Ideal.ieee]

/-- A row's maximum. -/
theorem mx_apply : mx x (ix4 b k h t) = Finset.univ.sup fun j => (x (ix5 b k h t j) : EReal) := by
  unfold mx
  pointwise
  rw [ninf]
  rfl

/-- A shifted logit. -/
theorem sh_apply : sh x (ix5 b k h t j) = x (ix5 b k h t j) - Finset.univ.sup fun j => (x (ix5 b k h t j) : EReal) := by
  unfold sh
  pointwise
  rw [mx_apply]

/-- The logarithm of a row's sum. -/
theorem lg_apply : lg x (ix4 b k h t) = Ideal.log (∑ j, Ideal.exp (x (ix5 b k h t j) - Finset.univ.sup fun j => (x (ix5 b k h t j) : EReal))) := by
  unfold lg
  pointwise
  simp only [sh_apply]

/-- A weight. -/
theorem wt_apply : wt x (ix5 b k h t j) = Ideal.exp ((x (ix5 b k h t j) - Finset.univ.sup fun j => (x (ix5 b k h t j) : EReal)) - Ideal.log (∑ j, Ideal.exp (x (ix5 b k h t j) - Finset.univ.sup fun j => (x (ix5 b k h t j) : EReal)))) := by
  unfold wt
  pointwise
  rw [sh_apply, lg_apply]

/-- A sum of two arrays by key head, head and token, rearranged by token and head. -/
theorem back_add (y z : FVec Ideal S3x2x8x1024 .f32) (n : Fin 16) :
    shapeCast S3x1024x16 (transpose S3x1024x2x8 [0, 3, 1, 2] (addf y z) transposes_S3x2x8x1024_S3x1024x2x8_0_3_1_2) shapeCasts_S3x1024x2x8_S3x1024x16 (ix3 b t n)
      = (y (ix4 b ⟨n.val / 8, by omega⟩ ⟨n.val % 8, by omega⟩ t) + z (ix4 b ⟨n.val / 8, by omega⟩ ⟨n.val % 8, by omega⟩ t) : EReal) := by
  pointwise

/-- The outputs from the weights, the values and the values' scales. -/
def ov (v : FVec Ideal S3x1024x2x128 .bf16) (p : FVec Ideal S3x2x8x1024x1024 .f32) (w : FVec Ideal S3x2x128 .f32) : FVec Ideal S3x1024x2048 .bf16 :=
  shapeCast S3x1024x2048 (truncf .bf16 (mulf (transpose S3x1024x2x8x128 [0, 4, 1, 3, 2] (Host.dotGeneral dot_S3x1024x2x128_S3x2x8x1024x1024_S3x2x128x8x1024_1_4_3_23_02_01 none v (truncf .bf16 p bitsLt_bf16_f32 : FVec Ideal S3x2x8x1024x1024 .bf16) : FVec Ideal S3x2x128x8x1024 .f32) transposes_S3x2x128x8x1024_S3x1024x2x8x128_0_4_1_3_2)
        (broadcastInDim S3x1024x2x8x128 ![0, 1, 2, 3, 4] bcast_S3x1x2x1x128_S3x1024x2x8x128_0_1_2_3_4 (broadcastInDim S3x1x2x1x128 ![0, 2, 4] bcast_S3x2x128_S3x1x2x1x128_0_2_4 w))) bitsLt_bf16_f32) shapeCasts_S3x1024x2x8x128_S3x1024x2048

/-- One number of the output. -/
theorem ov_apply (v p w) (n : Fin 2048) : ov v p w (ix3 b t n) = (∑ j, v (ix4 b j ⟨n.val / 1024, by omega⟩ ⟨n.val % 128, by omega⟩) * p (ix5 b ⟨n.val / 1024, by omega⟩ ⟨n.val / 128 % 8, by omega⟩ t j)) * w (ix3 b ⟨n.val / 1024, by omega⟩ ⟨n.val % 128, by omega⟩) := by
  unfold ov
  pointwise
variable (X : Valuation τ sig (Elt Ideal))

/-- The second result, from the masked logits. -/
theorem lse_eq : (StableHlo.after hostOps1_5 X (Proc.devRef .tc main_v52) : Vec Ideal S3x1024x16 .f32)
    = shapeCast S3x1024x16 (transpose S3x1024x2x8 [0, 3, 1, 2] (addf (mx (X (Proc.devRef .tc main_v30))) (lg (X (Proc.devRef .tc main_v30)))) transposes_S3x2x8x1024_S3x1024x2x8_0_3_1_2) shapeCasts_S3x1024x2x8_S3x1024x16 := by
  after_reads_simp
  rfl

/-- The first result, from the masked logits. -/
theorem out_eq : (StableHlo.after hostOps1_5 X (Proc.devRef .tc main_v50) : Vec Ideal S3x1024x2048 .bf16)
    = ov (X (Proc.devRef .tc main_v0_2)) (wt (X (Proc.devRef .tc main_v30))) (X (Proc.devRef .tc main_arg5)) := by
  after_reads_simp
  rfl
end Cert.FoxRef
-- ==== Proof.Grid.lean ====
module

public import proofs.«01_k».proof.Proof.Value
public import Idealize.ShloMosaic.Lib.Pipeline.ValueKit
public import Idealize.ShloMosaic.Lib.Claim

@[expose] public section

set_option maxRecDepth 16384

/-! # The kernel's run

Grid point `(b, g)` handles batch element `b` and the eight query heads that share key head `g`. `rd0` … `rd6` read its staged
blocks from the argument arrays, `arr7` and `arr8` put the result arrays together from the blocks of all grid points, `tail`
follows the log-sum-exps through the reshape and transpose after the call, and `kernel_run` states what the whole program
leaves. -/

noncomputable section

namespace Cert.Fox

open Idealize.ShloMosaic Idealize.ShloMosaic.TcCoe Cert.KernelIdeal Cert.KernelIdeal.Gen
open Idealize.SL.Sem

variable (m : (ℓ : Loc nD τ sig) → Buf (Elt Ideal) ℓ) (g : Dev nD → PrngReg)
variable (c : Dev nD)

/-- The first grid coordinate is a batch element. -/
theorem batch_lt (i : grid0.Coords) : (i 0).val < 3 := (i 0).isLt
/-- The second grid coordinate is a key head. -/
theorem kv_lt (i : grid0.Coords) : (i 1).val < 2 := (i 1).isLt

/-- A grid point's batch element. -/
def bb (i : grid0.Coords) : Fin 3 := ⟨(i 0).val, batch_lt i⟩
/-- A grid point's key-value head. -/
def kk (i : grid0.Coords) : Fin 2 := ⟨(i 1).val, kv_lt i⟩
/-- A grid point's query heads. -/
def hh (i : grid0.Coords) (h : Fin 8) : Fin 16 := ⟨8 * (i 1).val + h.val, by have := kv_lt i; omega⟩

/-- Which block of the queries' scales a grid point stages. -/
theorem at0 : ∀ t : Fin cfg0.N, win0_0.index t 0 = 0 ∧ win0_0.index t 1 = 0 := by decide +kernel
/-- Which block of the keys' scales a grid point stages. -/
theorem at1 : ∀ t : Fin cfg0.N, win0_1.index t 0 = 0 ∧ win0_1.index t 1 = 0 := by decide +kernel
/-- Which block of the queries a grid point stages. -/
theorem at2 : ∀ t : Fin cfg0.N, win0_2.index t 0 = (grid0.coords t 0).val ∧ win0_2.index t 1 = 0 ∧ win0_2.index t 2 = (grid0.coords t 1).val ∧ win0_2.index t 3 = 0 := by decide +kernel
/-- Which block of the keys a grid point stages. -/
theorem at3 : ∀ t : Fin cfg0.N, win0_3.index t 0 = (grid0.coords t 0).val ∧ win0_3.index t 1 = (grid0.coords t 1).val ∧ win0_3.index t 2 = 0 ∧ win0_3.index t 3 = 0 := by decide +kernel
/-- Which block of the values a grid point stages. -/
theorem at4 : ∀ t : Fin cfg0.N, win0_4.index t 0 = (grid0.coords t 0).val ∧ win0_4.index t 1 = (grid0.coords t 1).val ∧ win0_4.index t 2 = 0 ∧ win0_4.index t 3 = 0 := by decide +kernel
/-- Which block of the values' scales a grid point stages. -/
theorem at5 : ∀ t : Fin cfg0.N, win0_5.index t 0 = (grid0.coords t 0).val ∧ win0_5.index t 1 = (grid0.coords t 1).val ∧ win0_5.index t 2 = 0 ∧ win0_5.index t 3 = 0 := by decide +kernel
/-- Which block of the gates a grid point stages. -/
theorem at6 : ∀ t : Fin cfg0.N, win0_6.index t 0 = (grid0.coords t 0).val ∧ win0_6.index t 1 = (grid0.coords t 1).val ∧ win0_6.index t 2 = 0 ∧ win0_6.index t 3 = 0 := by decide +kernel
/-- Which block of the outputs a grid point stages. -/
theorem at7 : ∀ t : Fin cfg0.N, win0_7.index t 0 = (grid0.coords t 0).val ∧ win0_7.index t 1 = 0 ∧ win0_7.index t 2 = (grid0.coords t 1).val := by decide +kernel
/-- Which block of the log-sum-exps a grid point stages. -/
theorem at8 : ∀ t : Fin cfg0.N, win0_8.index t 0 = (grid0.coords t 0).val ∧ win0_8.index t 1 = (grid0.coords t 1).val ∧ win0_8.index t 2 = 0 ∧ win0_8.index t 3 = 0 := by decide +kernel

/-- Where that block of the queries' scales lies in the array. -/
theorem emb0 (X : S3x16.Idx → EReal) (t : Fin cfg0.N) (y : S3x16.Idx) : X ((win0_0.blk t).view.emb (y)) = X (y) := by
  obtain ⟨e0, e1⟩ := at0 t
  blk_ext!
  all_goals simp only [bb, kk, hh, e0, e1]
  all_goals omega

/-- Where that block of the keys' scales lies in the array. -/
theorem emb1 (X : S3x2.Idx → EReal) (t : Fin cfg0.N) (y : S3x2.Idx) : X ((win0_1.blk t).view.emb (y)) = X (y) := by
  obtain ⟨e0, e1⟩ := at1 t
  blk_ext!
  all_goals simp only [bb, kk, hh, e0, e1]
  all_goals omega

/-- Where that block of the queries lies in the array. -/
theorem emb2 (X : S3x1024x16x128.Idx → EReal) (t : Fin cfg0.N) (j : Fin 1024) (h : Fin 8) (d : Fin 128) : X ((win0_2.blk t).view.emb (ix4 0 j h d)) = X (ix4 (bb (grid0.coords t)) j (hh (grid0.coords t) h) d) := by
  obtain ⟨e0, e1, e2, e3⟩ := at2 t
  blk_ext!
  all_goals simp only [bb, kk, hh, e0, e1, e2, e3]
  all_goals omega

/-- Where that block of the keys lies in the array. -/
theorem emb3 (X : S3x2x1024x128.Idx → EReal) (t : Fin cfg0.N) (j : Fin 1024) (d : Fin 128) : X ((win0_3.blk t).view.emb (ix4 0 0 j d)) = X (ix4 (bb (grid0.coords t)) (kk (grid0.coords t)) j d) := by
  obtain ⟨e0, e1, e2, e3⟩ := at3 t
  blk_ext!
  all_goals simp only [bb, kk, hh, e0, e1, e2, e3]
  all_goals omega

/-- Where that block of the values lies in the array. -/
theorem emb4 (X : S3x2x1024x128.Idx → EReal) (t : Fin cfg0.N) (j : Fin 1024) (d : Fin 128) : X ((win0_4.blk t).view.emb (ix4 0 0 j d)) = X (ix4 (bb (grid0.coords t)) (kk (grid0.coords t)) j d) := by
  obtain ⟨e0, e1, e2, e3⟩ := at4 t
  blk_ext!
  all_goals simp only [bb, kk, hh, e0, e1, e2, e3]
  all_goals omega

/-- Where that block of the values' scales lies in the array. -/
theorem emb5 (X : S3x2x1x128.Idx → EReal) (t : Fin cfg0.N) (d : Fin 128) : X ((win0_5.blk t).view.emb (ix4 0 0 0 d)) = X (ix4 (bb (grid0.coords t)) (kk (grid0.coords t)) 0 d) := by
  obtain ⟨e0, e1, e2, e3⟩ := at5 t
  blk_ext!
  all_goals simp only [bb, kk, hh, e0, e1, e2, e3]
  all_goals omega

/-- Where that block of the gates lies in the array. -/
theorem emb6 (X : S3x2x8x1024.Idx → EReal) (t : Fin cfg0.N) (h : Fin 8) (j : Fin 1024) : X ((win0_6.blk t).view.emb (ix4 0 0 h j)) = X (ix4 (bb (grid0.coords t)) (kk (grid0.coords t)) h j) := by
  obtain ⟨e0, e1, e2, e3⟩ := at6 t
  blk_ext!
  all_goals simp only [bb, kk, hh, e0, e1, e2, e3]
  all_goals omega

/-- Where that block of the outputs lies in the array. -/
theorem emb7 (X : S3x1024x2048.Idx → EReal) (t : Fin cfg0.N) (j : Fin 1024) (n : Fin 1024) : X ((win0_7.blk t).view.emb (ix3 0 j n)) = X (ix3 (bb (grid0.coords t)) j ⟨1024 * (grid0.coords t 1).val + n.val, by have := kv_lt (grid0.coords t); omega⟩) := by
  obtain ⟨e0, e1, e2⟩ := at7 t
  blk_ext!
  all_goals simp only [bb, kk, hh, e0, e1, e2]
  all_goals omega

/-- Where that block of the log-sum-exps lies in the array. -/
theorem emb8 (X : S3x2x8x1024.Idx → EReal) (t : Fin cfg0.N) (h : Fin 8) (j : Fin 1024) : X ((win0_8.blk t).view.emb (ix4 0 0 h j)) = X (ix4 (bb (grid0.coords t)) (kk (grid0.coords t)) h j) := by
  obtain ⟨e0, e1, e2, e3⟩ := at8 t
  blk_ext!
  all_goals simp only [bb, kk, hh, e0, e1, e2, e3]
  all_goals omega

/-- The keys, with heads before tokens. -/
theorem V0eq : V m c main_v0 = (transpose S3x2x1024x128 [0, 2, 1, 3] (m ((c.tc : Thread nD τ).loc main_arg2)) transposes_S3x1024x2x128_S3x2x1024x128_0_2_1_3 : Vec Ideal S3x2x1024x128 .fp8e4m3) := by
  entry_read
  rfl
/-- The values, with heads before tokens. -/
theorem V1eq : V m c main_v1 = (transpose S3x2x1024x128 [0, 2, 1, 3] (m ((c.tc : Thread nD τ).loc main_arg4)) transposes_S3x1024x2x128_S3x2x1024x128_0_2_1_3 : Vec Ideal S3x2x1024x128 .fp8e4m3) := by
  entry_read
  rfl
/-- The gates, by batch element, key head, head and token. -/
theorem V3eq : V m c main_v3 = (shapeCast S3x2x8x1024 (transpose S3x16x1024 [0, 2, 1] (m ((c.tc : Thread nD τ).loc main_arg6)) transposes_S3x1024x16_S3x16x1024_0_2_1 : Vec Ideal S3x16x1024 .f32) shapeCasts_S3x16x1024_S3x2x8x1024 : Vec Ideal S3x2x8x1024 .f32) := by
  entry_read
  rfl
/-- The values' scales, with a unit axis. -/
theorem V4eq : V m c main_v4 = (shapeCast S3x2x1x128 (m ((c.tc : Thread nD τ).loc main_arg5) : Vec Ideal S3x2x128 .f32) shapeCasts_S3x2x128_S3x2x1x128 : Vec Ideal S3x2x1x128 .f32) := by
  entry_read
  rfl

/-- The queries' scales, as staged. -/
theorem rd0 (t) (y : S3x16.Idx) : iblk m c 0 t y = m ((c.tc : Thread nD τ).loc main_arg1) y := by
  refine Eq.trans ?_ (emb0 (m ((c.tc : Thread nD τ).loc main_arg1)) t y)
  blk_point [iblk, V]
/-- The keys' scales, as staged. -/
theorem rd1 (t) (y : S3x2.Idx) : iblk m c 1 t y = m ((c.tc : Thread nD τ).loc main_arg3) y := by
  refine Eq.trans ?_ (emb1 (m ((c.tc : Thread nD τ).loc main_arg3)) t y)
  blk_point [iblk, V]
/-- The queries, as staged. -/
theorem rd2 (t) (j : Fin 1024) (h : Fin 8) (d : Fin 128) : iblk m c 2 t (ix4 0 j h d) = m ((c.tc : Thread nD τ).loc main_arg0) (ix4 (bb (grid0.coords t)) j (hh (grid0.coords t) h) d) := by
  refine Eq.trans ?_ (emb2 (m ((c.tc : Thread nD τ).loc main_arg0)) t j h d)
  blk_point [iblk, V]
/-- The keys, as staged. -/
theorem rd3 (t) (j : Fin 1024) (d : Fin 128) : iblk m c 3 t (ix4 0 0 j d) = m ((c.tc : Thread nD τ).loc main_arg2) (ix4 (bb (grid0.coords t)) j (kk (grid0.coords t)) d) := by
  refine (emb3 (V m c main_v0) t j d).trans ?_
  rw [V0eq]
  pointwise
/-- The values, as staged. -/
theorem rd4 (t) (j : Fin 1024) (d : Fin 128) : iblk m c 4 t (ix4 0 0 j d) = m ((c.tc : Thread nD τ).loc main_arg4) (ix4 (bb (grid0.coords t)) j (kk (grid0.coords t)) d) := by
  refine (emb4 (V m c main_v1) t j d).trans ?_
  rw [V1eq]
  pointwise
/-- The values' scales, as staged. -/
theorem rd5 (t) (d : Fin 128) : iblk m c 5 t (ix4 0 0 0 d) = m ((c.tc : Thread nD τ).loc main_arg5) (ix3 (bb (grid0.coords t)) (kk (grid0.coords t)) d) := by
  refine (emb5 (V m c main_v4) t d).trans ?_
  rw [V4eq]
  pointwise
/-- The gates, as staged. -/
theorem rd6 (t) (h : Fin 8) (j : Fin 1024) : iblk m c 6 t (ix4 0 0 h j) = m ((c.tc : Thread nD τ).loc main_arg6) (ix3 (bb (grid0.coords t)) j (hh (grid0.coords t) h)) := by
  refine (emb6 (V m c main_v3) t h j).trans ?_
  rw [V3eq]
  pointwise
  exact congrArg (fun z => m ((c.tc : Thread nD τ).loc main_arg6) (ix3 (bb (grid0.coords t)) j z)) (Fin.ext (by
    show (grid0.coords t 1).val * 8 + h.val = 8 * (grid0.coords t 1).val + h.val
    omega))

/-- One head's attention over the argument arrays. -/
def attn (a0 : Vec Ideal S3x1024x16x128 .fp8e4m3) (a1 : Vec Ideal S3x16 .f32) (a2 : Vec Ideal S3x1024x2x128 .fp8e4m3) (a3 : Vec Ideal S3x2 .f32)
    (a4 : Vec Ideal S3x1024x2x128 .fp8e4m3) (a5 : Vec Ideal S3x2x128 .f32) (a6 : Vec Ideal S3x1024x16 .f32) (b : Fin 3) (h : Fin 16) : Head where
  q t d := a0 (ix4 b t h d)
  k j d := a2 (ix4 b j ⟨h.val / 8, by omega⟩ d)
  v j d := a4 (ix4 b j ⟨h.val / 8, by omega⟩ d)
  a := ((a1 (ix2 b h) * a3 (ix2 b ⟨h.val / 8, by omega⟩)) * (FloatOps.ofBits FTy.f32 1035273459#32 : Ideal .f32))
  c j := ∑ n ∈ Finset.range (j.val + 1), if hn : n < 1024 then ls (a6 (ix3 b ⟨n, hn⟩ h)) else 0
  vs d := a5 (ix3 b ⟨h.val / 8, by omega⟩ d)

/-- The attention of every batch element and head, over the kernel's argument arrays. -/
abbrev atn : Fin 3 → Fin 16 → Head :=
  attn (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The key head of a query head. -/
theorem hh_div (i : grid0.Coords) (h : Fin 8) : (⟨(hh i h).val / 8, by omega⟩ : Fin 2) = kk i := Fin.ext (by
  show (8 * (i 1).val + h.val) / 8 = (i 1).val
  omega)

/-- A grid point's head is a head of the arrays. -/
theorem head_eq (t : Fin cfg0.N) (h : Fin 8) : head (grid0.coords t) (iblk m c 0 t) (iblk m c 1 t) (iblk m c 2 t) (iblk m c 3 t) (iblk m c 4 t) (iblk m c 5 t) (iblk m c 6 t) h =
    atn m c (bb (grid0.coords t)) (hh (grid0.coords t) h) := by
  unfold head atn attn
  congr 1
  · funext j d; exact rd2 m c t j h d
  · funext j d; rw [hh_div]; exact rd3 m c t j d
  · funext j d; rw [hh_div]; exact rd4 m c t j d
  · rw [hh_div, rd0, rd1]; rfl
  · funext j
    unfold cum lsig
    refine Finset.sum_congr rfl fun n _ => ?_
    split
    · rw [rd6]
    · rfl
  · funext d; rw [hh_div]; exact rd5 m c t d

/-- The outputs, by coordinates. -/
def outA : Vec Ideal S3x1024x2048 .bf16 := fun y => (atn m c (y 0) ⟨(y 2).val / 128, by have := (y 2).isLt; change (y 2).val < 2048 at this; omega⟩).out (y 1) ⟨(y 2).val % 128, Nat.mod_lt _ (by norm_num)⟩

/-- The log-sum-exps, by batch element, key head, head and token. -/
def lseA : Vec Ideal S3x2x8x1024 .f32 := fun y => (atn m c (y 0) ⟨8 * (y 1).val + (y 2).val, by have h1 : (y 1).val < 2 := (y 1).isLt; have h2 : (y 2).val < 8 := (y 2).isLt; omega⟩).lse (y 3)

/-- The log-sum-exps, by batch element, token and head. -/
def lseT : Vec Ideal S3x1024x16 .f32 := fun y => (atn m c (y 0) (y 2)).lse (y 1)

variable (hm : ∀ y, m ((c.tc : Thread nD τ).loc main_arg6) y ≠ (⊥ : EReal))

include hm in
/-- No staged gate is minus infinity. -/
theorem gate_ne (t : Fin cfg0.N) (h : Fin 8) (j : Fin 1024) : iblk m c 6 t (ix4 0 0 h j) ≠ (⊥ : EReal) := by
  rw [rd6]; exact hm _

include hm in
/-- The output array after all grid points. -/
theorem arr7 : (dats m 0 c).arrAt 7 (cfgs 0).N = outA m c := by
  refine (dats m 0 c).arrAt_eq_of_covers 7 _ (by decide +kernel) fun t hf y => ?_
  blk_simp
  rw [after0_7]
  revert y
  show ∀ y : S1x1024x1024.Idx, (outsAt0 m c t).1 y = outA m c ((win0_7.blk t).view.emb y)
  intro y
  obtain ⟨j, n, rfl⟩ := ix3_ex y
  rw [emb7 (outA m c) t j n]
  unfold outsAt0
  dsimp only
  rw [o_value (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (arg14 := scM0_3) (harg14 := Memref.isWhole_whole _) (gate_ne m c hm t) j n]
  rw [head_eq]
  show _ = (atn m c (bb (grid0.coords t)) ⟨(1024 * (grid0.coords t 1).val + n.val) / 128, _⟩).out j ⟨(1024 * (grid0.coords t 1).val + n.val) % 128, _⟩
  have e1 : hh (grid0.coords t) ⟨n.val / 128, by omega⟩ = ⟨(1024 * (grid0.coords t 1).val + n.val) / 128, by have := kv_lt (grid0.coords t); omega⟩ := Fin.ext (by
    show 8 * (grid0.coords t 1).val + n.val / 128 = (1024 * (grid0.coords t 1).val + n.val) / 128
    omega)
  have e2 : (⟨n.val % 128, Nat.mod_lt _ (by norm_num)⟩ : Fin 128) = ⟨(1024 * (grid0.coords t 1).val + n.val) % 128, Nat.mod_lt _ (by norm_num)⟩ := Fin.ext (by
    show n.val % 128 = (1024 * (grid0.coords t 1).val + n.val) % 128
    omega)
  rw [e1, e2]

include hm in
/-- The log-sum-exp array after all grid points. -/
theorem arr8 : (dats m 0 c).arrAt 8 (cfgs 0).N = lseA m c := by
  refine (dats m 0 c).arrAt_eq_of_covers 8 _ (by decide +kernel) fun t hf y => ?_
  blk_simp
  rw [after0_8]
  revert y
  show ∀ y : S1x1x8x1024.Idx, (outsAt0 m c t).2 y = lseA m c ((win0_8.blk t).view.emb y)
  intro y
  have hy : ∃ (h : Fin 8) (j : Fin 1024), y = ix4 0 0 h j := ⟨y 2, y 3, by
    funext a; fin_cases a
    · exact Subsingleton.elim (α := Fin 1) _ _
    · exact Subsingleton.elim (α := Fin 1) _ _
    · rfl
    · rfl⟩
  obtain ⟨h, j, rfl⟩ := hy
  rw [emb8 (lseA m c) t h j]
  unfold outsAt0
  dsimp only
  rw [l_value (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := ms0_6 t) (harg8 := hs0_6 t) (arg9 := ms0_7 t) (harg9 := hs0_7 t) (arg10 := ms0_8 t) (harg10 := hs0_8 t) (arg11 := scM0_0) (harg11 := Memref.isWhole_whole _) (arg12 := scM0_1) (harg12 := Memref.isWhole_whole _) (arg13 := scM0_2) (harg13 := Memref.isWhole_whole _) (arg14 := scM0_3) (harg14 := Memref.isWhole_whole _) (gate_ne m c hm t) h j]
  rw [head_eq]
  rfl

include hm in
/-- The log-sum-exps after the closing reshape and transpose. -/
theorem tail : Pipeline.afterTail₀ cfgs (dats m) 0 (V0 m) [hostOps1] c main_v7 = lseT m c := by
  have e : Pipeline.withArrays (cfgs 0).spec c (V0 m c) (fun w => (dats m 0 c).arrAt w (cfgs 0).N) (Proc.tc.devRef main_v5_1) = lseA m c := by
    rw [← arr8 m c hm]
    exact Pipeline.withArrays_arr (cfgs 0).spec (by decide) c (V0 m c) (fun w => (dats m 0 c).arrAt w (cfgs 0).N) 8
  show StableHlo.after hostOps1 (Pipeline.withArrays (cfgs 0).spec c (V0 m c) fun w => (dats m 0 c).arrAt w (cfgs 0).N) (Proc.tc.devRef main_v7) = lseT m c
  after_results
  rw [e]
  funext y
  have hy : ∃ (b : Fin 3) (t : Fin 1024) (h : Fin 16), y = ix3 b t h := ⟨y 0, y 1, y 2, by
    funext a; fin_cases a <;> rfl⟩
  obtain ⟨b, t, h, rfl⟩ := hy
  show transpose S3x1024x16 [0, 2, 1] (shapeCast S3x16x1024 (lseA m c) shapeCasts_S3x2x8x1024_S3x16x1024) transposes_S3x16x1024_S3x1024x16_0_2_1 (ix3 b t h) = _
  pointwise
  have e : (⟨8 * (h.val / 8) + h.val % 8, by omega⟩ : Fin 16) = h := Fin.ext (Nat.div_add_mod _ _)
  show (atn m c b ⟨8 * (h.val / 8) + h.val % 8, _⟩).lse t = (atn m c b h).lse t
  rw [e]

/-- The kernel's run: the outputs and the row statistics of every head. -/
theorem kernel_run (g : Dev nD → PrngReg) (hm : ∀ (c : Dev nD) y, m ((c.tc : Thread nD τ).loc main_arg6) y ≠ (⊥ : EReal)) :
    θ_run (defs (F := Ideal)) (onTc (τ := τ) (main (F := Ideal))) ⟨m, fun _ => 0, g⟩ (fun r => ∀ c : Dev nD,
      r.2.mem ((c.tc : Thread nD τ).loc main_v5_0) = outA m c
      ∧ r.2.mem ((c.tc : Thread nD τ).loc main_v7) = lseT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m g
  · exact arr7 m c (hm c)
  · exact tail m c (hm c)
  · exact W_main_arg2 m (dats m) c
  · exact W_main_arg4 m (dats m) c
  · exact W_main_arg5 m (dats m) c
  · exact W_main_arg6 m (dats m) c
end Cert.Fox
end
-- ==== Proof.Ref.lean ====
module

public import proofs.«01_k».proof.Proof.RefOps
public import proofs.«01_k».proof.Proof.RefRow
public import proofs.«01_k».proof.Proof.Grid
public import Idealize.ShloMosaic.Lib.Pipeline.ValueKit
public import Idealize.ShloMosaic.Lib.Claim
public import Idealize.ShloMosaic.Lib.StableHlo.ReadAt
public import proofs.«01_k».proof.Proof.Gen.ReferenceIdeal.Frame

@[expose] public section

/-! # The reference's run

The gridless call at the start only changes the codes' format. `W0` … `W5` are the contents after it and after each group of
operations that follows; `cum_at` and `logit_at` read the running sums and the logits, and `ref_run` states what the
whole program leaves. -/

noncomputable section
namespace Cert.FoxRef
open Idealize.ShloMosaic Idealize.ShloMosaic.TcCoe Idealize.ShloMosaic.Pointwise
open Idealize.SL.Sem
open Cert.Fox (ls attn Head rmax rsum)
open Cert.ReferenceIdeal Cert.ReferenceIdeal.Gen

variable (m : (ℓ : Loc nD τ sig) → Buf (Elt Ideal) ℓ) (g : Dev nD → PrngReg) (c : Dev nD)

/-- The decoded queries. -/
theorem arr3 : (dats m 0 c).arrAt 3 (cfgs 0).N = (m ((c.tc : Thread nD τ).loc main_arg0) : FVec Ideal S3x1024x16x128 .fp8e4m3) := by
  refine (dats m 0 c).arrAt_eq_of_covers 3 _ (by decide +kernel) fun t hf y => ?_
  blk_simp
  rw [after0_3]
  unfold out0_3
  rw [View.canon_unit_zero (by decide), View.ld_unit_zero (by decide)]
  unfold k0_pay1
  blk_point [iblk, V]

/-- The decoded keys. -/
theorem arr4 : (dats m 0 c).arrAt 4 (cfgs 0).N = (m ((c.tc : Thread nD τ).loc main_arg2) : FVec Ideal S3x1024x2x128 .fp8e4m3) := by
  refine (dats m 0 c).arrAt_eq_of_covers 4 _ (by decide +kernel) fun t hf y => ?_
  blk_simp
  rw [after0_4]
  unfold out0_4
  rw [View.canon_unit_zero (by decide), View.ld_unit_zero (by decide)]
  unfold k0_pay2
  blk_point [iblk, V]

/-- The decoded values. -/
theorem arr5 : (dats m 0 c).arrAt 5 (cfgs 0).N = (m ((c.tc : Thread nD τ).loc main_arg4) : FVec Ideal S3x1024x2x128 .fp8e4m3) := by
  refine (dats m 0 c).arrAt_eq_of_covers 5 _ (by decide +kernel) fun t hf y => ?_
  blk_simp
  rw [after0_5]
  unfold out0_5
  rw [View.canon_unit_zero (by decide), View.ld_unit_zero (by decide)]
  unfold k0_pay3
  blk_point [iblk, V]

/-- The contents when the host operations after the casts begin. -/
abbrev W0 : Valuation τ sig (Elt Ideal) := Pipeline.withArrays (cfgs 0).spec c (V0 m c) fun w => (dats m 0 c).arrAt w (cfgs 0).N

/-- After the queries are grouped by key head. -/
abbrev W1 := StableHlo.after hostOps1 (W0 m c)

/-- After the log gates. -/
abbrev W2 := StableHlo.after hostOps1_1 (W1 m c)

/-- After the running sums. -/
abbrev W3 := StableHlo.after hostOps1_2 (W2 m c)

/-- After the logits and the mask. -/
abbrev W4 := StableHlo.after hostOps1_3 (W3 m c)

/-- After the masking. -/
abbrev W5 := StableHlo.after hostOps1_4 (W4 m c)

/-- The final contents, group by group. -/
theorem tail_eq (b : Ref sig .tc) : Pipeline.afterTail₀ cfgs (dats m) 0 (V0 m) [hostOps1, hostOps1_1, hostOps1_2, hostOps1_3, hostOps1_4, hostOps1_5] c b = StableHlo.after hostOps1_5 (W5 m c) (Proc.devRef .tc b) := by
  unfold Pipeline.afterTail₀
  simp only [List.flatten_cons, List.flatten_nil, List.append_nil]
  rw [StableHlo.after_append, StableHlo.after_append, StableHlo.after_append, StableHlo.after_append, StableHlo.after_append]

/-- The decoded queries, among the contents. -/
theorem w0_0 : W0 m c (Proc.devRef .tc main_v0_0) = (m ((c.tc : Thread nD τ).loc main_arg0) : FVec Ideal S3x1024x16x128 .fp8e4m3) := by
  refine Eq.trans ?_ (arr3 m c)
  exact Pipeline.withArrays_arr (cfgs 0).spec (by decide) c (V0 m c) (fun w => (dats m 0 c).arrAt w (cfgs 0).N) 3

/-- The decoded keys, among the contents. -/
theorem w0_1 : W0 m c (Proc.devRef .tc main_v0_1) = (m ((c.tc : Thread nD τ).loc main_arg2) : FVec Ideal S3x1024x2x128 .fp8e4m3) := by
  refine Eq.trans ?_ (arr4 m c)
  exact Pipeline.withArrays_arr (cfgs 0).spec (by decide) c (V0 m c) (fun w => (dats m 0 c).arrAt w (cfgs 0).N) 4

/-- The decoded values, among the contents. -/
theorem w0_2 : W0 m c (Proc.devRef .tc main_v0_2) = (m ((c.tc : Thread nD τ).loc main_arg4) : FVec Ideal S3x1024x2x128 .fp8e4m3) := by
  refine Eq.trans ?_ (arr5 m c)
  exact Pipeline.withArrays_arr (cfgs 0).spec (by decide) c (V0 m c) (fun w => (dats m 0 c).arrAt w (cfgs 0).N) 5

/-- The queries' scales are as given. -/
theorem wa1 : W0 m c (Proc.devRef .tc main_arg1) = m ((c.tc : Thread nD τ).loc main_arg1) := by
  unfold W0
  rw [Pipeline.withArrays_of_ne _ c (V0 m c) _ main_arg1 (by exact (by decide : ∀ w, Pipeline.arrRef spec0 w ≠ main_arg1))]
  exact V_main_arg1 m c

/-- The keys' scales are as given. -/
theorem wa3 : W0 m c (Proc.devRef .tc main_arg3) = m ((c.tc : Thread nD τ).loc main_arg3) := by
  unfold W0
  rw [Pipeline.withArrays_of_ne _ c (V0 m c) _ main_arg3 (by exact (by decide : ∀ w, Pipeline.arrRef spec0 w ≠ main_arg3))]
  exact V_main_arg3 m c

/-- The values' scales are as given. -/
theorem wa5 : W0 m c (Proc.devRef .tc main_arg5) = m ((c.tc : Thread nD τ).loc main_arg5) := by
  unfold W0
  rw [Pipeline.withArrays_of_ne _ c (V0 m c) _ main_arg5 (by exact (by decide : ∀ w, Pipeline.arrRef spec0 w ≠ main_arg5))]
  exact V_main_arg5 m c

/-- The gates are as given. -/
theorem wa6 : W0 m c (Proc.devRef .tc main_arg6) = m ((c.tc : Thread nD τ).loc main_arg6) := by
  unfold W0
  rw [Pipeline.withArrays_of_ne _ c (V0 m c) _ main_arg6 (by exact (by decide : ∀ w, Pipeline.arrRef spec0 w ≠ main_arg6))]
  exact V_main_arg6 m c

/-- One head's attention over the reference's argument arrays. -/
abbrev atr : Fin 3 → Fin 16 → Head := attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (hm : ∀ y, m ((c.tc : Thread nD τ).loc main_arg6) y ≠ (⊥ : EReal))

include hm in
/-- The running sum of the log gates up to a token. -/
theorem cum_at (b : Fin 3) (t : Fin 1024) (h : Fin 16) : (W3 m c (Proc.devRef .tc main_v3) : FVec Ideal S3x1024x16 .f32) (ix3 b t h) = (((atr m c b h).c t : ℝ) : EReal) := by
  show (StableHlo.after hostOps1_2 (W2 m c) (Proc.devRef .tc main_v3) : FVec Ideal S3x1024x16 .f32) (ix3 b t h) = _
  rw [csum_eq]
  refine cums_apply _ _ ?_ b t h (fun n => if hn : n < 1024 then ls ((m ((c.tc : Thread nD τ).loc main_arg6)) (ix3 b ⟨n, hn⟩ h)) else 0) fun n => ?_
  · show Ideal.ofBits .f32 0#32 = 0
    simp [Ideal.ofBits, Ideal.ieee]
  · have e : W1 m c (Proc.devRef .tc main_arg6) = (m ((c.tc : Thread nD τ).loc main_arg6)) := by
      unfold W1
      rw [keep_main_arg6, wa6]
    refine (gate_apply (W1 m c) (ix3 b n h) ?_).trans ?_
    · rw [e]; exact hm _
    · rw [e, dif_pos n.isLt]

include hm in
/-- A masked logit. -/
theorem logit_at (b : Fin 3) (k : Fin 2) (g : Fin 8) (t j : Fin 1024) : (W5 m c (Proc.devRef .tc main_v30) : FVec Ideal S3x2x8x1024x1024 .f32) (ix5 b k g t j) =
    (atr m c b ⟨k.val * 8 + g.val, by omega⟩).logit t j := by
  refine (sel_apply (W4 m c) b k g t j).trans ?_
  unfold W4
  rw [mask_apply, ninf_apply]
  unfold Head.logit
  by_cases hj : j.val ≤ t.val
  · rw [if_pos hj, if_pos hj]
    refine (raw_apply (W3 m c) (m ((c.tc : Thread nD τ).loc main_arg2)) (fun y => (m ((c.tc : Thread nD τ).loc main_arg0)) (ix4 (y 0) (y 1) ⟨(y 2).val * 8 + (y 3).val, by have h1 : (y 2).val < 2 := (y 2).isLt; have h2 : (y 3).val < 8 := (y 3).isLt; omega⟩ (y 4))) (m ((c.tc : Thread nD τ).loc main_arg1)) (m ((c.tc : Thread nD τ).loc main_arg3)) _ ?_ ?_ ?_ ?_ rfl b k g t j).trans ?_
    · unfold W3 W2 W1
      rw [keep_2_main_v0_1, keep_1_main_v0_1, keep_main_v0_1, w0_1]
    · unfold W3 W2
      rw [keep_2_main_v1, keep_1_main_v1]
      funext y
      have hy : y = ix5 (y 0) (y 1) (y 2) (y 3) (y 4) := eq_ix5 y
      rw [hy]
      refine (head_apply (W0 m c) _ _ _ _ _).trans ?_
      rw [w0_0]
      rfl
    · unfold W3 W2 W1
      rw [keep_2_main_arg1, keep_1_main_arg1, keep_main_arg1, wa1]
    · unfold W3 W2 W1
      rw [keep_2_main_arg3, keep_1_main_arg3, keep_main_arg3, wa3]
    · rw [cum_at m c hm, cum_at m c hm]
      have ek : (⟨(k.val * 8 + g.val) / 8, by omega⟩ : Fin 2) = k := Fin.ext (by show (k.val * 8 + g.val) / 8 = k.val; omega)
      refine congrArg₂ (fun (a b : EReal) => (a + _) - b) (congrArg₂ (fun (a b : EReal) => a * b) (Finset.sum_congr rfl fun d _ => ?_) ?_) rfl
      · refine (mul_comm _ _).trans ?_
        unfold atr attn
        dsimp only
        rw [ek]
        rfl
      · unfold atr attn
        dsimp only
        rw [ek]
        rfl
  · rw [if_neg hj, if_neg hj]
    rfl

/-- The outputs, by coordinates. -/
def outR : Vec Ideal S3x1024x2048 .bf16 := fun y => (atr m c (y 0) ⟨(y 2).val / 128, by have := (y 2).isLt; change (y 2).val < 2048 at this; omega⟩).out (y 1) ⟨(y 2).val % 128, Nat.mod_lt _ (by norm_num)⟩

/-- The row statistics, by coordinates. -/
def lseR : Vec Ideal S3x1024x16 .f32 := fun y => (atr m c (y 0) (y 2)).lse (y 1)

include hm in
/-- The second result is the log-sum-exps. -/
theorem lse_tail : Pipeline.afterTail₀ cfgs (dats m) 0 (V0 m) [hostOps1, hostOps1_1, hostOps1_2, hostOps1_3, hostOps1_4, hostOps1_5] c main_v52 = lseR m c := by
  rw [tail_eq, lse_eq]
  funext y
  have hy : ∃ (b : Fin 3) (t : Fin 1024) (h : Fin 16), y = ix3 b t h := ⟨y 0, y 1, y 2, by
    funext a; fin_cases a <;> rfl⟩
  obtain ⟨b, t, h, rfl⟩ := hy
  refine (back_add b t _ _ h).trans ?_
  rw [mx_apply, lg_apply]
  have e : (⟨h.val / 8 * 8 + h.val % 8, by omega⟩ : Fin 16) = h := Fin.ext (by show h.val / 8 * 8 + h.val % 8 = h.val; omega)
  have el : ∀ j, (W5 m c (Proc.devRef .tc main_v30) : FVec Ideal S3x2x8x1024x1024 .f32) (ix5 b ⟨h.val / 8, by omega⟩ ⟨h.val % 8, by omega⟩ t j) = (atr m c b h).logit t j := fun j => by
    refine (logit_at m c hm b _ _ t j).trans ?_
    rw [show (⟨(⟨h.val / 8, by omega⟩ : Fin 2).val * 8 + (⟨h.val % 8, by omega⟩ : Fin 8).val, by simp only []; omega⟩ : Fin 16) = h from e]
  simp only [el]
  show _ = (atr m c b h).lse t
  unfold Head.lse rmax rsum rmax
  rfl

include hm in
/-- The first result is the outputs. -/
theorem out_tail : Pipeline.afterTail₀ cfgs (dats m) 0 (V0 m) [hostOps1, hostOps1_1, hostOps1_2, hostOps1_3, hostOps1_4, hostOps1_5] c main_v50 = outR m c := by
  rw [tail_eq, out_eq]
  funext y
  have hy : ∃ (b : Fin 3) (t : Fin 1024) (n : Fin 2048), y = ix3 b t n := ⟨y 0, y 1, y 2, by
    funext a; fin_cases a <;> rfl⟩
  obtain ⟨b, t, n, rfl⟩ := hy
  have e2 : W5 m c (Proc.devRef .tc main_v0_2) = (m ((c.tc : Thread nD τ).loc main_arg4)) := by
    unfold W5 W4 W3 W2 W1
    rw [keep_4_main_v0_2, keep_3_main_v0_2, keep_2_main_v0_2, keep_1_main_v0_2, keep_main_v0_2, w0_2]
  have e5 : W5 m c (Proc.devRef .tc main_arg5) = (m ((c.tc : Thread nD τ).loc main_arg5)) := by
    unfold W5 W4 W3 W2 W1
    rw [keep_4_main_arg5, keep_3_main_arg5, keep_2_main_arg5, keep_1_main_arg5, keep_main_arg5, wa5]
  rw [e2, e5]
  refine (ov_apply b t _ _ _ n).trans ?_
  have e : (⟨n.val / 1024 * 8 + n.val / 128 % 8, by omega⟩ : Fin 16) = ⟨n.val / 128, by omega⟩ := Fin.ext (by show n.val / 1024 * 8 + n.val / 128 % 8 = n.val / 128; omega)
  have ek : (⟨n.val / 128 / 8, by omega⟩ : Fin 2) = ⟨n.val / 1024, by omega⟩ := Fin.ext (by show n.val / 128 / 8 = n.val / 1024; omega)
  have el : ∀ j, (W5 m c (Proc.devRef .tc main_v30) : FVec Ideal S3x2x8x1024x1024 .f32) (ix5 b ⟨n.val / 1024, by omega⟩ ⟨n.val / 128 % 8, by omega⟩ t j) = (atr m c b ⟨n.val / 128, by omega⟩).logit t j := fun j => by
    refine (logit_at m c hm b _ _ t j).trans ?_
    rw [show (⟨(⟨n.val / 1024, by omega⟩ : Fin 2).val * 8 + (⟨n.val / 128 % 8, by omega⟩ : Fin 8).val, by simp only []; omega⟩ : Fin 16) = ⟨n.val / 128, by omega⟩ from e]
  simp only [wt_apply, el]
  show _ = (atr m c b ⟨n.val / 128, by omega⟩).out t ⟨n.val % 128, _⟩
  unfold Head.out
  refine congrArg₂ (fun (a b : EReal) => a * b) (Finset.sum_congr rfl fun j _ => ?_) ?_
  · refine (mul_comm _ _).trans ?_
    refine congrArg₂ (fun (a b : EReal) => a * b) rfl ?_
    unfold atr attn
    dsimp only
    rw [ek]
  · unfold atr attn
    dsimp only
    rw [ek]

/-- The reference's run: the outputs and the row statistics of every head. -/
theorem ref_run (hm : ∀ (c : Dev nD) y, m ((c.tc : Thread nD τ).loc main_arg6) y ≠ (⊥ : EReal)) :
    θ_run (defs (F := Ideal)) (onTc (τ := τ) (main (F := Ideal))) ⟨m, fun _ => 0, g⟩ (fun r => ∀ c : Dev nD,
      r.2.mem ((c.tc : Thread nD τ).loc main_v50) = outR m c
      ∧ r.2.mem ((c.tc : Thread nD τ).loc main_v52) = lseR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v50 (Pipeline.mem_restRefs_of main_v50 (by decide) (by decide))).trans (out_tail m c (hm c)),
    ((h.1 c).2 main_v52 (Pipeline.mem_restRefs_of main_v52 (by decide) (by decide))).trans (lse_tail m c (hm c)), h.2 c⟩)
    (θ_run_and (run_main m g) (unchanged m g))
end Cert.FoxRef
-- ==== Proof.Claims.lean ====
module

public import proofs.«01_k».proof.Defs
public import proofs.«01_k».proof.Proof.Ref
public import Idealize.ShloMosaic.Lib.ReduceAll
public import Idealize.ShloMosaic.Lib.Bf16PairInverse

@[expose] public section

/-! # The claims about values

`preserves` closes the rewrites of the idealization, one lemma of their rule each. `algebraic` puts the kernel's run and
the reference's run side by side: both leave, at every head and token, the attention of that head (`Cert.Fox.Head.out`)
and the logarithm of its row's sum of exponentials (`Cert.Fox.Head.lse`). -/

noncomputable section

namespace Cert.Proof

open Idealize.ShloMosaic Idealize.SL.Sem Idealize.ShloMosaic.TcCoe

/-- What the precondition's program states of its arrays' shapes. -/
theorem gated_facts : Cert.Pre_gated.Facts := ⟨by decide, by decide, by decide⟩

/-- Every rewrite of the idealization is an instance of its rule. -/
theorem preserves : Cert.preserves_Kernel_KernelIdeal :=
  open Cert.KernelIdeal IdealRules in
  ⟨bf16_pair.bufferStatement S128x2x128 S128x1x128, named_const.statement κ "neg_log2e" .f32 _ _ rfl,
    named_const.statement κ "log2e" .f32 _ _ rfl, bf16_pair.packStatement S16x8x128,
    bf16_pair.statement S128x2x128 S128x1x128, bf16_pair.statement S16x2x128 S16x1x128,
    bf16_pair.statement S32x128 S16x128, named_const.statement κ "ln2" .f32 _ _ rfl⟩

/-- The precondition, read: no gate's logit is minus infinity. -/
theorem gated_ne [hp : Cert.Pre_gated.Facts] (a0 a1 a2 a3 a4 a5) (a6 : FVec Ideal Cert.Pre_gated.S3x1024x16 .f32)
    (h : Cert.Pre_gated.fn (F := Ideal) a0 a1 a2 a3 a4 a5 a6 = fun _ => 1#1) (y : Cert.Pre_gated.S3x1024x16.Idx) :
    a6 y ≠ (⊥ : EReal) := by
  intro hy
  have h0 := congrFun h (fun a => a.elim0)
  dsimp only [Cert.Pre_gated.fn] at h0
  haveI : Subsingleton Cert.Pre_gated.S_.Idx := ⟨fun a b => funext fun i => i.elim0⟩
  have h1 := Host.reduce_andi_all _ _ _ _ _ h0 y
  have h2 : Ideal.cmp .ogt (a6 y) (Ideal.ofBits FTy.f32 4286578688#32) = 1#1 := h1
  rw [hy, Cert.FoxRef.ninf] at h2
  simp [Ideal.cmp] at h2

/-- The kernel and the reference end with equal results. -/
theorem algebraic [hp : Cert.Pre_gated.Facts] :
    Cert.algebraic_KernelIdeal_ReferenceIdeal_pre_gated (hKernelIdeal := Cert.KernelIdeal.Gen.facts)
      (hReferenceIdeal := Cert.ReferenceIdeal.Gen.facts) (hPre_gated := hp) := by
  intro m g m' g' hpre hagree
  have hm : ∀ (c : Dev Cert.KernelIdeal.nD) y, m ((c.tc : Thread Cert.KernelIdeal.nD Cert.KernelIdeal.τ).loc Cert.KernelIdeal.main_arg6) y ≠ (⊥ : EReal) :=
    fun c y => gated_ne _ _ _ _ _ _ _ (hpre c) y
  have hm' : ∀ (c : Dev Cert.ReferenceIdeal.nD) y, m' ((c.tc : Thread Cert.ReferenceIdeal.nD Cert.ReferenceIdeal.τ).loc Cert.ReferenceIdeal.main_arg6) y ≠ (⊥ : EReal) :=
    fun c y => by
      have e := (hagree c).2.2.2.2.2.2
      rw [e]
      exact hm c y
  have ea : ∀ c, Cert.FoxRef.atr m' c = Cert.Fox.atn m c := fun c => by
    obtain ⟨e0, e1, e2, e3, e4, e5, e6⟩ := hagree c
    unfold Cert.FoxRef.atr Cert.Fox.atn
    rw [e0, e1, e2, e3, e4, e5, e6]
  have eo : ∀ c, Cert.FoxRef.outR m' c = Cert.Fox.outA m c := fun c => by
    unfold Cert.FoxRef.outR Cert.Fox.outA
    rw [ea c]
  have el : ∀ c, Cert.FoxRef.lseR m' c = Cert.Fox.lseT m c := fun c => by
    unfold Cert.FoxRef.lseR Cert.Fox.lseT
    rw [ea c]
  refine ⟨Cert.Fox.outA m, Cert.Fox.lseT m, Cert.Fox.kernel_run m g hm, ?_⟩
  refine (θ_run _ _ _).mono (fun r h c => ?_) (Cert.FoxRef.ref_run m' g' hm')
  obtain ⟨h0, h1, h2⟩ := h c
  exact ⟨h0.trans (eo c), h1.trans (el c), h2⟩

end Cert.Proof

end
-- ==== Proof.lean ====
/- The proof of every claim of this directory: the three programs run to the end and leave their arguments alone, the
   idealization is of the kernel, and the idealized kernel computes the reference's values. -/
module

public import proofs.«01_k».proof.Proof.Claims
public import proofs.«01_k».proof.Proof.Gen.Kernel.Frame
public import proofs.«01_k».proof.Proof.Gen.KernelIdeal.Frame
public import proofs.«01_k».proof.Proof.Gen.ReferenceIdeal.Frame

@[expose] public section

noncomputable section

namespace Cert.Proof

theorem claim : Cert.Claim :=
  ⟨Cert.Kernel.Gen.facts, Cert.KernelIdeal.Gen.facts, Cert.ReferenceIdeal.Gen.facts, gated_facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic (hp := gated_facts)⟩

end Cert.Proof

end
